-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 2048, 8, 128]⟩ ⟨4, ![1, 2048, 256, 128]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 256, 128]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S640x1024 : Shape := ⟨2, ![640, 1024]⟩
abbrev S4x8x16x1024 : Shape := ⟨4, ![4, 8, 16, 1024]⟩
abbrev S32x16x1024 : Shape := ⟨3, ![32, 16, 1024]⟩
abbrev S16x1024 : Shape := ⟨2, ![16, 1024]⟩
abbrev S32 : Shape := ⟨1, ![32]⟩
abbrev S_ : Shape := ⟨0, ![]⟩
abbrev S512x1024 : Shape := ⟨2, ![512, 1024]⟩
abbrev S128x1024 : Shape := ⟨2, ![128, 1024]⟩
abbrev S2048x8x128 : Shape := ⟨3, ![2048, 8, 128]⟩
abbrev S2048x1024 : Shape := ⟨2, ![2048, 1024]⟩
abbrev S128x128 : Shape := ⟨2, ![128, 128]⟩
abbrev S2048x128 : Shape := ⟨2, ![2048, 128]⟩
abbrev S128x2048 : Shape := ⟨2, ![128, 2048]⟩
abbrev S128 : Shape := ⟨1, ![128]⟩
abbrev S128x1 : Shape := ⟨2, ![128, 1]⟩
abbrev S8x16x1024 : Shape := ⟨3, ![8, 16, 1024]⟩
abbrev S1x8x16x1024 : Shape := ⟨4, ![1, 8, 16, 1024]⟩
abbrev S1 : Shape := ⟨1, ![1]⟩
abbrev S1x16x1024 : Shape := ⟨3, ![1, 16, 1024]⟩
abbrev S1x1x16x1024 : Shape := ⟨4, ![1, 1, 16, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1x2048x8x128, .f32⟩
  | .local _ .vmem, ⟨4, _⟩ => ⟨S1x2048x8x128, .f32⟩
  | .local _ .vmem, ⟨5, _⟩ => ⟨S1x512x1024, .f32⟩
  | .local _ .vmem, ⟨6, _⟩ => ⟨S640x1024, .f32⟩
  | .local _ .vmem, ⟨7, _⟩ => ⟨S4x8x16x1024, .bf16⟩
  | .local _ .vmem, ⟨8, _⟩ => ⟨S32x16x1024, .bf16⟩
  | .local _ .vmem, ⟨9, _⟩ => ⟨S16x1024, .bf16⟩
  | .local _ .vmem, ⟨10, _⟩ => ⟨S32x16x1024, .bf16⟩
  | _, _ => ⟨S1x512x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c0_i32_143 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_142 : BitVec 32 := 1#32
  let v151 : BitVec 32 := Scalar.addi v2 c1_i32_142
  let v152 : BitVec 32 := Scalar.addi v151 c0_i32_143
  let c32_i32_144 : BitVec 32 := 32#32
  let v153 : BitVec 32 := Scalar.remsi v152 c32_i32_144
  let c16_i32_145 : BitVec 32 := 16#32
  let v154 : BitVec 32 := Scalar.muli v153 c16_i32_145
  let v155 : Index := Scalar.indexCast v154
  let c0_146 : Index := 0#32
  ![v155.toNat, 0]
def k0_dev32 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_192 : BitVec 32 := 1#32
  let v304 : BitVec 32 := Scalar.addi v2 c1_i32_192
  let c32_i32_193 : BitVec 32 := 32#32
  let v305 : BitVec 32 := Scalar.remsi v304 c32_i32_193
  let c1_i32_199 : BitVec 32 := 1#32
  let v306 : BitVec 32 := Scalar.muli v305 c1_i32_199
  let v307 : BitVec 32 := Scalar.addi c0_i32_200 v306
  v307.toNat
def k0_dev33 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_205 : BitVec 32 := 2#32
  let v316 : BitVec 32 := Scalar.addi v2 c2_i32_205
  let c32_i32_206 : BitVec 32 := 32#32
  let v317 : BitVec 32 := Scalar.remsi v316 c32_i32_206
  let c1_i32_212 : BitVec 32 := 1#32
  let v318 : BitVec 32 := Scalar.muli v317 c1_i32_212
  let v319 : BitVec 32 := Scalar.addi c0_i32_213 v318
  v319.toNat
def k0_dev34 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_218 : BitVec 32 := 3#32
  let v328 : BitVec 32 := Scalar.addi v2 c3_i32_218
  let c32_i32_219 : BitVec 32 := 32#32
  let v329 : BitVec 32 := Scalar.remsi v328 c32_i32_219
  let c1_i32_225 : BitVec 32 := 1#32
  let v330 : BitVec 32 := Scalar.muli v329 c1_i32_225
  let v331 : BitVec 32 := Scalar.addi c0_i32_226 v330
  v331.toNat
def k0_dev35 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_231 : BitVec 32 := 4#32
  let v340 : BitVec 32 := Scalar.addi v2 c4_i32_231
  let c32_i32_232 : BitVec 32 := 32#32
  let v341 : BitVec 32 := Scalar.remsi v340 c32_i32_232
  let c1_i32_238 : BitVec 32 := 1#32
  let v342 : BitVec 32 := Scalar.muli v341 c1_i32_238
  let v343 : BitVec 32 := Scalar.addi c0_i32_239 v342
  v343.toNat
def k0_dev36 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_244 : BitVec 32 := 5#32
  let v352 : BitVec 32 := Scalar.addi v2 c5_i32_244
  let c32_i32_245 : BitVec 32 := 32#32
  let v353 : BitVec 32 := Scalar.remsi v352 c32_i32_245
  let c1_i32_251 : BitVec 32 := 1#32
  let v354 : BitVec 32 := Scalar.muli v353 c1_i32_251
  let v355 : BitVec 32 := Scalar.addi c0_i32_252 v354
  v355.toNat
def k0_dev37 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_257 : BitVec 32 := 6#32
  let v364 : BitVec 32 := Scalar.addi v2 c6_i32_257
  let c32_i32_258 : BitVec 32 := 32#32
  let v365 : BitVec 32 := Scalar.remsi v364 c32_i32_258
  let c1_i32_264 : BitVec 32 := 1#32
  let v366 : BitVec 32 := Scalar.muli v365 c1_i32_264
  let v367 : BitVec 32 := Scalar.addi c0_i32_265 v366
  v367.toNat
def k0_dev38 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_270 : BitVec 32 := 7#32
  let v376 : BitVec 32 := Scalar.addi v2 c7_i32_270
  let c32_i32_271 : BitVec 32 := 32#32
  let v377 : BitVec 32 := Scalar.remsi v376 c32_i32_271
  let c1_i32_277 : BitVec 32 := 1#32
  let v378 : BitVec 32 := Scalar.muli v377 c1_i32_277
  let v379 : BitVec 32 := Scalar.addi c0_i32_278 v378
  v379.toNat
def k0_dev39 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_283 : BitVec 32 := 8#32
  let v388 : BitVec 32 := Scalar.addi v2 c8_i32_283
  let c32_i32_284 : BitVec 32 := 32#32
  let v389 : BitVec 32 := Scalar.remsi v388 c32_i32_284
  let c1_i32_290 : BitVec 32 := 1#32
  let v390 : BitVec 32 := Scalar.muli v389 c1_i32_290
  let v391 : BitVec 32 := Scalar.addi c0_i32_291 v390
  v391.toNat
def k0_dev40 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_346 : BitVec 32 := 9#32
  let v553 : BitVec 32 := Scalar.addi v2 c9_i32_346
  let c32_i32_347 : BitVec 32 := 32#32
  let v554 : BitVec 32 := Scalar.remsi v553 c32_i32_347
  let c1_i32_353 : BitVec 32 := 1#32
  let v555 : BitVec 32 := Scalar.muli v554 c1_i32_353
  let v556 : BitVec 32 := Scalar.addi c0_i32_354 v555
  v556.toNat
def k0_dev41 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_359 : BitVec 32 := 10#32
  let v565 : BitVec 32 := Scalar.addi v2 c10_i32_359
  let c32_i32_360 : BitVec 32 := 32#32
  let v566 : BitVec 32 := Scalar.remsi v565 c32_i32_360
  let c1_i32_366 : BitVec 32 := 1#32
  let v567 : BitVec 32 := Scalar.muli v566 c1_i32_366
  let v568 : BitVec 32 := Scalar.addi c0_i32_367 v567
  v568.toNat
def k0_dev42 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_372 : BitVec 32 := 11#32
  let v577 : BitVec 32 := Scalar.addi v2 c11_i32_372
  let c32_i32_373 : BitVec 32 := 32#32
  let v578 : BitVec 32 := Scalar.remsi v577 c32_i32_373
  let c1_i32_379 : BitVec 32 := 1#32
  let v579 : BitVec 32 := Scalar.muli v578 c1_i32_379
  let v580 : BitVec 32 := Scalar.addi c0_i32_380 v579
  v580.toNat
def k0_dev43 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_385 : BitVec 32 := 12#32
  let v589 : BitVec 32 := Scalar.addi v2 c12_i32_385
  let c32_i32_386 : BitVec 32 := 32#32
  let v590 : BitVec 32 := Scalar.remsi v589 c32_i32_386
  let c1_i32_392 : BitVec 32 := 1#32
  let v591 : BitVec 32 := Scalar.muli v590 c1_i32_392
  let v592 : BitVec 32 := Scalar.addi c0_i32_393 v591
  v592.toNat
def k0_dev44 (d0 : Dev nD) : Nat :=
  let c0_i32_406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_398 : BitVec 32 := 13#32
  let v601 : BitVec 32 := Scalar.addi v2 c13_i32_398
  let c32_i32_399 : BitVec 32 := 32#32
  let v602 : BitVec 32 := Scalar.remsi v601 c32_i32_399
  let c1_i32_405 : BitVec 32 := 1#32
  let v603 : BitVec 32 := Scalar.muli v602 c1_i32_405
  let v604 : BitVec 32 := Scalar.addi c0_i32_406 v603
  v604.toNat
def k0_dev45 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_411 : BitVec 32 := 14#32
  let v613 : BitVec 32 := Scalar.addi v2 c14_i32_411
  let c32_i32_412 : BitVec 32 := 32#32
  let v614 : BitVec 32 := Scalar.remsi v613 c32_i32_412
  let c1_i32_418 : BitVec 32 := 1#32
  let v615 : BitVec 32 := Scalar.muli v614 c1_i32_418
  let v616 : BitVec 32 := Scalar.addi c0_i32_419 v615
  v616.toNat
def k0_dev46 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_424 : BitVec 32 := 15#32
  let v625 : BitVec 32 := Scalar.addi v2 c15_i32_424
  let c32_i32_425 : BitVec 32 := 32#32
  let v626 : BitVec 32 := Scalar.remsi v625 c32_i32_425
  let c1_i32_431 : BitVec 32 := 1#32
  let v627 : BitVec 32 := Scalar.muli v626 c1_i32_431
  let v628 : BitVec 32 := Scalar.addi c0_i32_432 v627
  v628.toNat
def k0_dev47 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_437 : BitVec 32 := 16#32
  let v637 : BitVec 32 := Scalar.addi v2 c16_i32_437
  let c32_i32_438 : BitVec 32 := 32#32
  let v638 : BitVec 32 := Scalar.remsi v637 c32_i32_438
  let c1_i32_444 : BitVec 32 := 1#32
  let v639 : BitVec 32 := Scalar.muli v638 c1_i32_444
  let v640 : BitVec 32 := Scalar.addi c0_i32_445 v639
  v640.toNat
def k0_dev48 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_500 : BitVec 32 := 17#32
  let v802 : BitVec 32 := Scalar.addi v2 c17_i32_500
  let c32_i32_501 : BitVec 32 := 32#32
  let v803 : BitVec 32 := Scalar.remsi v802 c32_i32_501
  let c1_i32_507 : BitVec 32 := 1#32
  let v804 : BitVec 32 := Scalar.muli v803 c1_i32_507
  let v805 : BitVec 32 := Scalar.addi c0_i32_508 v804
  v805.toNat
def k0_dev49 (d0 : Dev nD) : Nat :=
  let c0_i32_521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_513 : BitVec 32 := 18#32
  let v814 : BitVec 32 := Scalar.addi v2 c18_i32_513
  let c32_i32_514 : BitVec 32 := 32#32
  let v815 : BitVec 32 := Scalar.remsi v814 c32_i32_514
  let c1_i32_520 : BitVec 32 := 1#32
  let v816 : BitVec 32 := Scalar.muli v815 c1_i32_520
  let v817 : BitVec 32 := Scalar.addi c0_i32_521 v816
  v817.toNat
def k0_dev50 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_526 : BitVec 32 := 19#32
  let v826 : BitVec 32 := Scalar.addi v2 c19_i32_526
  let c32_i32_527 : BitVec 32 := 32#32
  let v827 : BitVec 32 := Scalar.remsi v826 c32_i32_527
  let c1_i32_533 : BitVec 32 := 1#32
  let v828 : BitVec 32 := Scalar.muli v827 c1_i32_533
  let v829 : BitVec 32 := Scalar.addi c0_i32_534 v828
  v829.toNat
def k0_dev51 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_539 : BitVec 32 := 20#32
  let v838 : BitVec 32 := Scalar.addi v2 c20_i32_539
  let c32_i32_540 : BitVec 32 := 32#32
  let v839 : BitVec 32 := Scalar.remsi v838 c32_i32_540
  let c1_i32_546 : BitVec 32 := 1#32
  let v840 : BitVec 32 := Scalar.muli v839 c1_i32_546
  let v841 : BitVec 32 := Scalar.addi c0_i32_547 v840
  v841.toNat
def k0_dev52 (d0 : Dev nD) : Nat :=
  let c0_i32_560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_552 : BitVec 32 := 21#32
  let v850 : BitVec 32 := Scalar.addi v2 c21_i32_552
  let c32_i32_553 : BitVec 32 := 32#32
  let v851 : BitVec 32 := Scalar.remsi v850 c32_i32_553
  let c1_i32_559 : BitVec 32 := 1#32
  let v852 : BitVec 32 := Scalar.muli v851 c1_i32_559
  let v853 : BitVec 32 := Scalar.addi c0_i32_560 v852
  v853.toNat
def k0_dev53 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_565 : BitVec 32 := 22#32
  let v862 : BitVec 32 := Scalar.addi v2 c22_i32_565
  let c32_i32_566 : BitVec 32 := 32#32
  let v863 : BitVec 32 := Scalar.remsi v862 c32_i32_566
  let c1_i32_572 : BitVec 32 := 1#32
  let v864 : BitVec 32 := Scalar.muli v863 c1_i32_572
  let v865 : BitVec 32 := Scalar.addi c0_i32_573 v864
  v865.toNat
def k0_dev54 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_578 : BitVec 32 := 23#32
  let v874 : BitVec 32 := Scalar.addi v2 c23_i32_578
  let c32_i32_579 : BitVec 32 := 32#32
  let v875 : BitVec 32 := Scalar.remsi v874 c32_i32_579
  let c1_i32_585 : BitVec 32 := 1#32
  let v876 : BitVec 32 := Scalar.muli v875 c1_i32_585
  let v877 : BitVec 32 := Scalar.addi c0_i32_586 v876
  v877.toNat
def k0_dev55 (d0 : Dev nD) : Nat :=
  let c0_i32_599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_591 : BitVec 32 := 24#32
  let v886 : BitVec 32 := Scalar.addi v2 c24_i32_591
  let c32_i32_592 : BitVec 32 := 32#32
  let v887 : BitVec 32 := Scalar.remsi v886 c32_i32_592
  let c1_i32_598 : BitVec 32 := 1#32
  let v888 : BitVec 32 := Scalar.muli v887 c1_i32_598
  let v889 : BitVec 32 := Scalar.addi c0_i32_599 v888
  v889.toNat
def k0_dev56 (d0 : Dev nD) : Nat :=
  let c0_i32_662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_654 : BitVec 32 := 25#32
  let v1051 : BitVec 32 := Scalar.addi v2 c25_i32_654
  let c32_i32_655 : BitVec 32 := 32#32
  let v1052 : BitVec 32 := Scalar.remsi v1051 c32_i32_655
  let c1_i32_661 : BitVec 32 := 1#32
  let v1053 : BitVec 32 := Scalar.muli v1052 c1_i32_661
  let v1054 : BitVec 32 := Scalar.addi c0_i32_662 v1053
  v1054.toNat
def k0_dev57 (d0 : Dev nD) : Nat :=
  let c0_i32_675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_667 : BitVec 32 := 26#32
  let v1063 : BitVec 32 := Scalar.addi v2 c26_i32_667
  let c32_i32_668 : BitVec 32 := 32#32
  let v1064 : BitVec 32 := Scalar.remsi v1063 c32_i32_668
  let c1_i32_674 : BitVec 32 := 1#32
  let v1065 : BitVec 32 := Scalar.muli v1064 c1_i32_674
  let v1066 : BitVec 32 := Scalar.addi c0_i32_675 v1065
  v1066.toNat
def k0_dev58 (d0 : Dev nD) : Nat :=
  let c0_i32_688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_680 : BitVec 32 := 27#32
  let v1075 : BitVec 32 := Scalar.addi v2 c27_i32_680
  let c32_i32_681 : BitVec 32 := 32#32
  let v1076 : BitVec 32 := Scalar.remsi v1075 c32_i32_681
  let c1_i32_687 : BitVec 32 := 1#32
  let v1077 : BitVec 32 := Scalar.muli v1076 c1_i32_687
  let v1078 : BitVec 32 := Scalar.addi c0_i32_688 v1077
  v1078.toNat
def k0_dev59 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_693 : BitVec 32 := 28#32
  let v1087 : BitVec 32 := Scalar.addi v2 c28_i32_693
  let c32_i32_694 : BitVec 32 := 32#32
  let v1088 : BitVec 32 := Scalar.remsi v1087 c32_i32_694
  let c1_i32_700 : BitVec 32 := 1#32
  let v1089 : BitVec 32 := Scalar.muli v1088 c1_i32_700
  let v1090 : BitVec 32 := Scalar.addi c0_i32_701 v1089
  v1090.toNat
def k0_dev60 (d0 : Dev nD) : Nat :=
  let c0_i32_714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_706 : BitVec 32 := 29#32
  let v1099 : BitVec 32 := Scalar.addi v2 c29_i32_706
  let c32_i32_707 : BitVec 32 := 32#32
  let v1100 : BitVec 32 := Scalar.remsi v1099 c32_i32_707
  let c1_i32_713 : BitVec 32 := 1#32
  let v1101 : BitVec 32 := Scalar.muli v1100 c1_i32_713
  let v1102 : BitVec 32 := Scalar.addi c0_i32_714 v1101
  v1102.toNat
def k0_dev61 (d0 : Dev nD) : Nat :=
  let c0_i32_727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_719 : BitVec 32 := 30#32
  let v1111 : BitVec 32 := Scalar.addi v2 c30_i32_719
  let c32_i32_720 : BitVec 32 := 32#32
  let v1112 : BitVec 32 := Scalar.remsi v1111 c32_i32_720
  let c1_i32_726 : BitVec 32 := 1#32
  let v1113 : BitVec 32 := Scalar.muli v1112 c1_i32_726
  let v1114 : BitVec 32 := Scalar.addi c0_i32_727 v1113
  v1114.toNat
def k0_dev62 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_732 : BitVec 32 := 31#32
  let v1123 : BitVec 32 := Scalar.addi v2 c31_i32_732
  let c32_i32_733 : BitVec 32 := 32#32
  let v1124 : BitVec 32 := Scalar.remsi v1123 c32_i32_733
  let c1_i32_739 : BitVec 32 := 1#32
  let v1125 : BitVec 32 := Scalar.muli v1124 c1_i32_739
  let v1126 : BitVec 32 := Scalar.addi c0_i32_740 v1125
  v1126.toNat
def k0_off2 (d0 : Dev nD) : Fin 3 → Nat :=
  let c0_1099 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1098 : BitVec 32 := 16#32
  let v1395 : BitVec 32 := Scalar.muli v2 c16_i32_1098
  let v1396 : Index := Scalar.indexCast v1395
  let c0_1100 : Index := 0#32
  ![0, v1396.toNat, 0]
def k0_dev63 (d0 : Dev nD) : Nat :=
  let c0_i32_1107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1101 : BitVec 32 := 1#32
  let v1400 : BitVec 32 := Scalar.addi v2 c1_i32_1101
  let c32_i32_1102 : BitVec 32 := 32#32
  let v1401 : BitVec 32 := Scalar.remsi v1400 c32_i32_1102
  let c1_i32_1106 : BitVec 32 := 1#32
  let v1402 : BitVec 32 := Scalar.muli v1401 c1_i32_1106
  let v1403 : BitVec 32 := Scalar.addi c0_i32_1107 v1402
  v1403.toNat
def k0_dev64 (d0 : Dev nD) : Nat :=
  let c0_i32_1116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1110 : BitVec 32 := 2#32
  let v1410 : BitVec 32 := Scalar.addi v2 c2_i32_1110
  let c32_i32_1111 : BitVec 32 := 32#32
  let v1411 : BitVec 32 := Scalar.remsi v1410 c32_i32_1111
  let c1_i32_1115 : BitVec 32 := 1#32
  let v1412 : BitVec 32 := Scalar.muli v1411 c1_i32_1115
  let v1413 : BitVec 32 := Scalar.addi c0_i32_1116 v1412
  v1413.toNat
def k0_dev65 (d0 : Dev nD) : Nat :=
  let c0_i32_1125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1119 : BitVec 32 := 3#32
  let v1420 : BitVec 32 := Scalar.addi v2 c3_i32_1119
  let c32_i32_1120 : BitVec 32 := 32#32
  let v1421 : BitVec 32 := Scalar.remsi v1420 c32_i32_1120
  let c1_i32_1124 : BitVec 32 := 1#32
  let v1422 : BitVec 32 := Scalar.muli v1421 c1_i32_1124
  let v1423 : BitVec 32 := Scalar.addi c0_i32_1125 v1422
  v1423.toNat
def k0_dev66 (d0 : Dev nD) : Nat :=
  let c0_i32_1134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1128 : BitVec 32 := 4#32
  let v1430 : BitVec 32 := Scalar.addi v2 c4_i32_1128
  let c32_i32_1129 : BitVec 32 := 32#32
  let v1431 : BitVec 32 := Scalar.remsi v1430 c32_i32_1129
  let c1_i32_1133 : BitVec 32 := 1#32
  let v1432 : BitVec 32 := Scalar.muli v1431 c1_i32_1133
  let v1433 : BitVec 32 := Scalar.addi c0_i32_1134 v1432
  v1433.toNat
def k0_dev67 (d0 : Dev nD) : Nat :=
  let c0_i32_1143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1137 : BitVec 32 := 5#32
  let v1440 : BitVec 32 := Scalar.addi v2 c5_i32_1137
  let c32_i32_1138 : BitVec 32 := 32#32
  let v1441 : BitVec 32 := Scalar.remsi v1440 c32_i32_1138
  let c1_i32_1142 : BitVec 32 := 1#32
  let v1442 : BitVec 32 := Scalar.muli v1441 c1_i32_1142
  let v1443 : BitVec 32 := Scalar.addi c0_i32_1143 v1442
  v1443.toNat
def k0_dev68 (d0 : Dev nD) : Nat :=
  let c0_i32_1152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1146 : BitVec 32 := 6#32
  let v1450 : BitVec 32 := Scalar.addi v2 c6_i32_1146
  let c32_i32_1147 : BitVec 32 := 32#32
  let v1451 : BitVec 32 := Scalar.remsi v1450 c32_i32_1147
  let c1_i32_1151 : BitVec 32 := 1#32
  let v1452 : BitVec 32 := Scalar.muli v1451 c1_i32_1151
  let v1453 : BitVec 32 := Scalar.addi c0_i32_1152 v1452
  v1453.toNat
def k0_dev69 (d0 : Dev nD) : Nat :=
  let c0_i32_1161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1155 : BitVec 32 := 7#32
  let v1460 : BitVec 32 := Scalar.addi v2 c7_i32_1155
  let c32_i32_1156 : BitVec 32 := 32#32
  let v1461 : BitVec 32 := Scalar.remsi v1460 c32_i32_1156
  let c1_i32_1160 : BitVec 32 := 1#32
  let v1462 : BitVec 32 := Scalar.muli v1461 c1_i32_1160
  let v1463 : BitVec 32 := Scalar.addi c0_i32_1161 v1462
  v1463.toNat
def k0_dev70 (d0 : Dev nD) : Nat :=
  let c0_i32_1170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1164 : BitVec 32 := 8#32
  let v1470 : BitVec 32 := Scalar.addi v2 c8_i32_1164
  let c32_i32_1165 : BitVec 32 := 32#32
  let v1471 : BitVec 32 := Scalar.remsi v1470 c32_i32_1165
  let c1_i32_1169 : BitVec 32 := 1#32
  let v1472 : BitVec 32 := Scalar.muli v1471 c1_i32_1169
  let v1473 : BitVec 32 := Scalar.addi c0_i32_1170 v1472
  v1473.toNat
def k0_dev71 (d0 : Dev nD) : Nat :=
  let c0_i32_1179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1173 : BitVec 32 := 9#32
  let v1480 : BitVec 32 := Scalar.addi v2 c9_i32_1173
  let c32_i32_1174 : BitVec 32 := 32#32
  let v1481 : BitVec 32 := Scalar.remsi v1480 c32_i32_1174
  let c1_i32_1178 : BitVec 32 := 1#32
  let v1482 : BitVec 32 := Scalar.muli v1481 c1_i32_1178
  let v1483 : BitVec 32 := Scalar.addi c0_i32_1179 v1482
  v1483.toNat
def k0_dev72 (d0 : Dev nD) : Nat :=
  let c0_i32_1188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1182 : BitVec 32 := 10#32
  let v1490 : BitVec 32 := Scalar.addi v2 c10_i32_1182
  let c32_i32_1183 : BitVec 32 := 32#32
  let v1491 : BitVec 32 := Scalar.remsi v1490 c32_i32_1183
  let c1_i32_1187 : BitVec 32 := 1#32
  let v1492 : BitVec 32 := Scalar.muli v1491 c1_i32_1187
  let v1493 : BitVec 32 := Scalar.addi c0_i32_1188 v1492
  v1493.toNat
def k0_dev73 (d0 : Dev nD) : Nat :=
  let c0_i32_1197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1191 : BitVec 32 := 11#32
  let v1500 : BitVec 32 := Scalar.addi v2 c11_i32_1191
  let c32_i32_1192 : BitVec 32 := 32#32
  let v1501 : BitVec 32 := Scalar.remsi v1500 c32_i32_1192
  let c1_i32_1196 : BitVec 32 := 1#32
  let v1502 : BitVec 32 := Scalar.muli v1501 c1_i32_1196
  let v1503 : BitVec 32 := Scalar.addi c0_i32_1197 v1502
  v1503.toNat
def k0_dev74 (d0 : Dev nD) : Nat :=
  let c0_i32_1206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1200 : BitVec 32 := 12#32
  let v1510 : BitVec 32 := Scalar.addi v2 c12_i32_1200
  let c32_i32_1201 : BitVec 32 := 32#32
  let v1511 : BitVec 32 := Scalar.remsi v1510 c32_i32_1201
  let c1_i32_1205 : BitVec 32 := 1#32
  let v1512 : BitVec 32 := Scalar.muli v1511 c1_i32_1205
  let v1513 : BitVec 32 := Scalar.addi c0_i32_1206 v1512
  v1513.toNat
def k0_dev75 (d0 : Dev nD) : Nat :=
  let c0_i32_1215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1209 : BitVec 32 := 13#32
  let v1520 : BitVec 32 := Scalar.addi v2 c13_i32_1209
  let c32_i32_1210 : BitVec 32 := 32#32
  let v1521 : BitVec 32 := Scalar.remsi v1520 c32_i32_1210
  let c1_i32_1214 : BitVec 32 := 1#32
  let v1522 : BitVec 32 := Scalar.muli v1521 c1_i32_1214
  let v1523 : BitVec 32 := Scalar.addi c0_i32_1215 v1522
  v1523.toNat
def k0_dev76 (d0 : Dev nD) : Nat :=
  let c0_i32_1224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1218 : BitVec 32 := 14#32
  let v1530 : BitVec 32 := Scalar.addi v2 c14_i32_1218
  let c32_i32_1219 : BitVec 32 := 32#32
  let v1531 : BitVec 32 := Scalar.remsi v1530 c32_i32_1219
  let c1_i32_1223 : BitVec 32 := 1#32
  let v1532 : BitVec 32 := Scalar.muli v1531 c1_i32_1223
  let v1533 : BitVec 32 := Scalar.addi c0_i32_1224 v1532
  v1533.toNat
def k0_dev77 (d0 : Dev nD) : Nat :=
  let c0_i32_1233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1227 : BitVec 32 := 15#32
  let v1540 : BitVec 32 := Scalar.addi v2 c15_i32_1227
  let c32_i32_1228 : BitVec 32 := 32#32
  let v1541 : BitVec 32 := Scalar.remsi v1540 c32_i32_1228
  let c1_i32_1232 : BitVec 32 := 1#32
  let v1542 : BitVec 32 := Scalar.muli v1541 c1_i32_1232
  let v1543 : BitVec 32 := Scalar.addi c0_i32_1233 v1542
  v1543.toNat
def k0_dev78 (d0 : Dev nD) : Nat :=
  let c0_i32_1242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1236 : BitVec 32 := 16#32
  let v1550 : BitVec 32 := Scalar.addi v2 c16_i32_1236
  let c32_i32_1237 : BitVec 32 := 32#32
  let v1551 : BitVec 32 := Scalar.remsi v1550 c32_i32_1237
  let c1_i32_1241 : BitVec 32 := 1#32
  let v1552 : BitVec 32 := Scalar.muli v1551 c1_i32_1241
  let v1553 : BitVec 32 := Scalar.addi c0_i32_1242 v1552
  v1553.toNat
def k0_dev79 (d0 : Dev nD) : Nat :=
  let c0_i32_1251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1245 : BitVec 32 := 17#32
  let v1560 : BitVec 32 := Scalar.addi v2 c17_i32_1245
  let c32_i32_1246 : BitVec 32 := 32#32
  let v1561 : BitVec 32 := Scalar.remsi v1560 c32_i32_1246
  let c1_i32_1250 : BitVec 32 := 1#32
  let v1562 : BitVec 32 := Scalar.muli v1561 c1_i32_1250
  let v1563 : BitVec 32 := Scalar.addi c0_i32_1251 v1562
  v1563.toNat
def k0_dev80 (d0 : Dev nD) : Nat :=
  let c0_i32_1260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1254 : BitVec 32 := 18#32
  let v1570 : BitVec 32 := Scalar.addi v2 c18_i32_1254
  let c32_i32_1255 : BitVec 32 := 32#32
  let v1571 : BitVec 32 := Scalar.remsi v1570 c32_i32_1255
  let c1_i32_1259 : BitVec 32 := 1#32
  let v1572 : BitVec 32 := Scalar.muli v1571 c1_i32_1259
  let v1573 : BitVec 32 := Scalar.addi c0_i32_1260 v1572
  v1573.toNat
def k0_dev81 (d0 : Dev nD) : Nat :=
  let c0_i32_1269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1263 : BitVec 32 := 19#32
  let v1580 : BitVec 32 := Scalar.addi v2 c19_i32_1263
  let c32_i32_1264 : BitVec 32 := 32#32
  let v1581 : BitVec 32 := Scalar.remsi v1580 c32_i32_1264
  let c1_i32_1268 : BitVec 32 := 1#32
  let v1582 : BitVec 32 := Scalar.muli v1581 c1_i32_1268
  let v1583 : BitVec 32 := Scalar.addi c0_i32_1269 v1582
  v1583.toNat
def k0_dev82 (d0 : Dev nD) : Nat :=
  let c0_i32_1278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1272 : BitVec 32 := 20#32
  let v1590 : BitVec 32 := Scalar.addi v2 c20_i32_1272
  let c32_i32_1273 : BitVec 32 := 32#32
  let v1591 : BitVec 32 := Scalar.remsi v1590 c32_i32_1273
  let c1_i32_1277 : BitVec 32 := 1#32
  let v1592 : BitVec 32 := Scalar.muli v1591 c1_i32_1277
  let v1593 : BitVec 32 := Scalar.addi c0_i32_1278 v1592
  v1593.toNat
def k0_dev83 (d0 : Dev nD) : Nat :=
  let c0_i32_1287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1281 : BitVec 32 := 21#32
  let v1600 : BitVec 32 := Scalar.addi v2 c21_i32_1281
  let c32_i32_1282 : BitVec 32 := 32#32
  let v1601 : BitVec 32 := Scalar.remsi v1600 c32_i32_1282
  let c1_i32_1286 : BitVec 32 := 1#32
  let v1602 : BitVec 32 := Scalar.muli v1601 c1_i32_1286
  let v1603 : BitVec 32 := Scalar.addi c0_i32_1287 v1602
  v1603.toNat
def k0_dev84 (d0 : Dev nD) : Nat :=
  let c0_i32_1296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1290 : BitVec 32 := 22#32
  let v1610 : BitVec 32 := Scalar.addi v2 c22_i32_1290
  let c32_i32_1291 : BitVec 32 := 32#32
  let v1611 : BitVec 32 := Scalar.remsi v1610 c32_i32_1291
  let c1_i32_1295 : BitVec 32 := 1#32
  let v1612 : BitVec 32 := Scalar.muli v1611 c1_i32_1295
  let v1613 : BitVec 32 := Scalar.addi c0_i32_1296 v1612
  v1613.toNat
def k0_dev85 (d0 : Dev nD) : Nat :=
  let c0_i32_1305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1299 : BitVec 32 := 23#32
  let v1620 : BitVec 32 := Scalar.addi v2 c23_i32_1299
  let c32_i32_1300 : BitVec 32 := 32#32
  let v1621 : BitVec 32 := Scalar.remsi v1620 c32_i32_1300
  let c1_i32_1304 : BitVec 32 := 1#32
  let v1622 : BitVec 32 := Scalar.muli v1621 c1_i32_1304
  let v1623 : BitVec 32 := Scalar.addi c0_i32_1305 v1622
  v1623.toNat
def k0_dev86 (d0 : Dev nD) : Nat :=
  let c0_i32_1314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1308 : BitVec 32 := 24#32
  let v1630 : BitVec 32 := Scalar.addi v2 c24_i32_1308
  let c32_i32_1309 : BitVec 32 := 32#32
  let v1631 : BitVec 32 := Scalar.remsi v1630 c32_i32_1309
  let c1_i32_1313 : BitVec 32 := 1#32
  let v1632 : BitVec 32 := Scalar.muli v1631 c1_i32_1313
  let v1633 : BitVec 32 := Scalar.addi c0_i32_1314 v1632
  v1633.toNat
def k0_dev87 (d0 : Dev nD) : Nat :=
  let c0_i32_1323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1317 : BitVec 32 := 25#32
  let v1640 : BitVec 32 := Scalar.addi v2 c25_i32_1317
  let c32_i32_1318 : BitVec 32 := 32#32
  let v1641 : BitVec 32 := Scalar.remsi v1640 c32_i32_1318
  let c1_i32_1322 : BitVec 32 := 1#32
  let v1642 : BitVec 32 := Scalar.muli v1641 c1_i32_1322
  let v1643 : BitVec 32 := Scalar.addi c0_i32_1323 v1642
  v1643.toNat
def k0_dev88 (d0 : Dev nD) : Nat :=
  let c0_i32_1332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1326 : BitVec 32 := 26#32
  let v1650 : BitVec 32 := Scalar.addi v2 c26_i32_1326
  let c32_i32_1327 : BitVec 32 := 32#32
  let v1651 : BitVec 32 := Scalar.remsi v1650 c32_i32_1327
  let c1_i32_1331 : BitVec 32 := 1#32
  let v1652 : BitVec 32 := Scalar.muli v1651 c1_i32_1331
  let v1653 : BitVec 32 := Scalar.addi c0_i32_1332 v1652
  v1653.toNat
def k0_dev89 (d0 : Dev nD) : Nat :=
  let c0_i32_1341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1335 : BitVec 32 := 27#32
  let v1660 : BitVec 32 := Scalar.addi v2 c27_i32_1335
  let c32_i32_1336 : BitVec 32 := 32#32
  let v1661 : BitVec 32 := Scalar.remsi v1660 c32_i32_1336
  let c1_i32_1340 : BitVec 32 := 1#32
  let v1662 : BitVec 32 := Scalar.muli v1661 c1_i32_1340
  let v1663 : BitVec 32 := Scalar.addi c0_i32_1341 v1662
  v1663.toNat
def k0_dev90 (d0 : Dev nD) : Nat :=
  let c0_i32_1350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1344 : BitVec 32 := 28#32
  let v1670 : BitVec 32 := Scalar.addi v2 c28_i32_1344
  let c32_i32_1345 : BitVec 32 := 32#32
  let v1671 : BitVec 32 := Scalar.remsi v1670 c32_i32_1345
  let c1_i32_1349 : BitVec 32 := 1#32
  let v1672 : BitVec 32 := Scalar.muli v1671 c1_i32_1349
  let v1673 : BitVec 32 := Scalar.addi c0_i32_1350 v1672
  v1673.toNat
def k0_dev91 (d0 : Dev nD) : Nat :=
  let c0_i32_1359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1353 : BitVec 32 := 29#32
  let v1680 : BitVec 32 := Scalar.addi v2 c29_i32_1353
  let c32_i32_1354 : BitVec 32 := 32#32
  let v1681 : BitVec 32 := Scalar.remsi v1680 c32_i32_1354
  let c1_i32_1358 : BitVec 32 := 1#32
  let v1682 : BitVec 32 := Scalar.muli v1681 c1_i32_1358
  let v1683 : BitVec 32 := Scalar.addi c0_i32_1359 v1682
  v1683.toNat
def k0_dev92 (d0 : Dev nD) : Nat :=
  let c0_i32_1368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1362 : BitVec 32 := 30#32
  let v1690 : BitVec 32 := Scalar.addi v2 c30_i32_1362
  let c32_i32_1363 : BitVec 32 := 32#32
  let v1691 : BitVec 32 := Scalar.remsi v1690 c32_i32_1363
  let c1_i32_1367 : BitVec 32 := 1#32
  let v1692 : BitVec 32 := Scalar.muli v1691 c1_i32_1367
  let v1693 : BitVec 32 := Scalar.addi c0_i32_1368 v1692
  v1693.toNat
def k0_dev93 (d0 : Dev nD) : Nat :=
  let c0_i32_1377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1371 : BitVec 32 := 31#32
  let v1700 : BitVec 32 := Scalar.addi v2 c31_i32_1371
  let c32_i32_1372 : BitVec 32 := 32#32
  let v1701 : BitVec 32 := Scalar.remsi v1700 c32_i32_1372
  let c1_i32_1376 : BitVec 32 := 1#32
  let v1702 : BitVec 32 := Scalar.muli v1701 c1_i32_1376
  let v1703 : BitVec 32 := Scalar.addi c0_i32_1377 v1702
  v1703.toNat
def k0_off3 (d0 : Dev nD) (c1_i32_1597 : BitVec 32) : Fin 3 → Nat :=
  let c0_1604 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1896 : BitVec 32 := Scalar.subi v2 c1_i32_1597
  let c32_i32_1598 : BitVec 32 := 32#32
  let v1897 : BitVec 32 := Scalar.addi v1896 c32_i32_1598
  let c32_i32_1599 : BitVec 32 := 32#32
  let v1898 : BitVec 32 := Scalar.remsi v1897 c32_i32_1599
  let c16_i32_1603 : BitVec 32 := 16#32
  let v1902 : BitVec 32 := Scalar.muli v1898 c16_i32_1603
  let v1903 : Index := Scalar.indexCast v1902
  let c0_1605 : Index := 0#32
  ![0, v1903.toNat, 0]
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x32768 : Shape := ⟨2, ![1024, 32768]⟩
abbrev S1x2048x256x128 : Shape := ⟨4, ![1, 2048, 256, 128]⟩
abbrev S32768x1024 : Shape := ⟨2, ![32768, 1024]⟩
abbrev S1x512x32768 : Shape := ⟨3, ![1, 512, 32768]⟩
abbrev S1x512x256x128 : Shape := ⟨4, ![1, 512, 256, 128]⟩
abbrev S_ : Shape := ⟨0, ![]⟩
abbrev S1x256x512x1 : Shape := ⟨4, ![1, 256, 512, 1]⟩
abbrev S1x1024x256x128 : Shape := ⟨4, ![1, 1024, 256, 128]⟩
abbrev S1x256x512x1024 : Shape := ⟨4, ![1, 256, 512, 1024]⟩
abbrev S1x256x512 : Shape := ⟨3, ![1, 256, 512]⟩
abbrev S1x512x256x1 : Shape := ⟨4, ![1, 512, 256, 1]⟩
abbrev S1x256x128x512 : Shape := ⟨4, ![1, 256, 128, 512]⟩

abbrev nBuf : Space → Nat
  | .hbm => 70
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x32768, .f32⟩
  | .hbm, ⟨2, _⟩ => ⟨S1x2048x256x128, .f32⟩
  | .hbm, ⟨3, _⟩ => ⟨S1x2048x256x128, .f32⟩
  | .hbm, ⟨4, _⟩ => ⟨S32768x1024, .f32⟩
  | .hbm, ⟨5, _⟩ => ⟨S1x512x32768, .f32⟩
  | .hbm, ⟨6, _⟩ => ⟨S1x512x256x128, .f32⟩
  | .hbm, ⟨7, _⟩ => ⟨S_, .f32⟩
  | .hbm, ⟨8, _⟩ => ⟨S1x512x256x128, .f32⟩
  | .hbm, ⟨9, _⟩ => ⟨S_, .f32⟩
  | .hbm, ⟨10, _⟩ => ⟨S1x256x512x1, .f32⟩
  | .hbm, ⟨11, _⟩ => ⟨S_, .f32⟩
  | .hbm, ⟨12, _⟩ => ⟨S1x256x512x1, .f32⟩
  | .hbm, ⟨13, _⟩ => ⟨S1x1024x256x128, .f32⟩
  | .hbm, ⟨14, _⟩ => ⟨S1x1024x256x128, .f32⟩
  | .hbm, ⟨15, _⟩ => ⟨S1x256x512x1024, .f32⟩
  | .hbm, ⟨16, _⟩ => ⟨S_, .f32⟩
  | .hbm, ⟨17, _⟩ => ⟨S1x256x512x1024, .f32⟩
  | .hbm, ⟨18, _⟩ => ⟨S1x256x512x1024, .f32⟩
  | .hbm, ⟨19, _⟩ => ⟨S_, .f32⟩
  | .hbm, ⟨20, _⟩ => ⟨S1x256x512, .f32⟩
  | .hbm, ⟨21, _⟩ => ⟨S1x256x512x1, .f32⟩
  | .hbm, ⟨22, _⟩ => ⟨S1x256x512x1, .f32⟩
  | .hbm, ⟨23, _⟩ => ⟨S1x256x512x1, .f32⟩
  | .hbm, ⟨24, _⟩ => ⟨S1x256x512x1, .f32⟩
  | .hbm, ⟨25, _⟩ => ⟨S1x256x512x1024, .f32⟩
  | .hbm, ⟨26, _⟩ => ⟨S1x256x512x1024, .f32⟩
  | .hbm, ⟨27, _⟩ => ⟨S1x256x512x1024, .f32⟩
  | .hbm, ⟨28, _⟩ => ⟨S1x256x512x1, .f32⟩
  | .hbm, ⟨29, _⟩ => ⟨S_, .f32⟩
  | .hbm, ⟨30, _⟩ => ⟨S1x256x512, .f32⟩
  | .hbm, ⟨31, _⟩ => ⟨S1x256x512x1, .f32⟩
  | .hbm, ⟨32, _⟩ => ⟨S1x256x512x1, .f32⟩
  | .hbm, ⟨33, _⟩ => ⟨S1x512x256x1, .f32⟩
  | .hbm, ⟨34, _⟩ => ⟨S1x512x256x128, .f32⟩
  | .hbm, ⟨35, _⟩ => ⟨S1x512x256x128, .f32⟩
  | .hbm, ⟨36, _⟩ => ⟨S1x256x128x512, .f32⟩
  | .hbm, ⟨37, _⟩ => ⟨S1x512x256x128, .f32⟩
  | .hbm, ⟨38, _⟩ => ⟨S1x512x256x128, .f32⟩
  | .hbm, ⟨39, _⟩ => ⟨S1x1024x256x128, .f32⟩
  | .hbm, ⟨40, _⟩ => ⟨S1x1024x256x128, .f32⟩
  | .hbm, ⟨41, _⟩ => ⟨S1x256x512x1024, .f32⟩
  | .hbm, ⟨42, _⟩ => ⟨S_, .f32⟩
  | .hbm, ⟨43, _⟩ => ⟨S1x256x512x1024, .f32⟩
  | .hbm, ⟨44, _⟩ => ⟨S1x256x512x1024, .f32⟩
  | .hbm, ⟨45, _⟩ => ⟨S_, .f32⟩
  | .hbm, ⟨46, _⟩ => ⟨S1x256x512, .f32⟩
  | .hbm, ⟨47, _⟩ => ⟨S1x256x512x1, .f32⟩
  | .hbm, ⟨48, _⟩ => ⟨S1x256x512x1, .f32⟩
  | .hbm, ⟨49, _⟩ => ⟨S1x256x512x1, .f32⟩
  | .hbm, ⟨50, _⟩ => ⟨S1x256x512x1, .f32⟩
  | .hbm, ⟨51, _⟩ => ⟨S1x256x512x1024, .f32⟩
  | .hbm, ⟨52, _⟩ => ⟨S1x256x512x1024, .f32⟩
  | .hbm, ⟨53, _⟩ => ⟨S1x256x512x1024, .f32⟩
  | .hbm, ⟨54, _⟩ => ⟨S1x256x512x1, .f32⟩
  | .hbm, ⟨55, _⟩ => ⟨S_, .f32⟩
  | .hbm, ⟨56, _⟩ => ⟨S1x256x512, .f32⟩
  | .hbm, ⟨57, _⟩ => ⟨S1x256x512x1, .f32⟩
  | .hbm, ⟨58, _⟩ => ⟨S1x256x512x1, .f32⟩
  | .hbm, ⟨59, _⟩ => ⟨S1x512x256x1, .f32⟩
  | .hbm, ⟨60, _⟩ => ⟨S1x512x256x128, .f32⟩
  | .hbm, ⟨61, _⟩ => ⟨S1x512x256x128, .f32⟩
  | .hbm, ⟨62, _⟩ => ⟨S1x256x128x512, .f32⟩
  | .hbm, ⟨63, _⟩ => ⟨S1x512x256x128, .f32⟩
  | .hbm, ⟨64, _⟩ => ⟨S1x512x256x128, .f32⟩
  | .hbm, ⟨65, _⟩ => ⟨S1x512x256x1, .f32⟩
  | .hbm, ⟨66, _⟩ => ⟨S1x512x256x128, .f32⟩
  | .hbm, ⟨67, _⟩ => ⟨S1x512x256x128, .f32⟩
  | .hbm, ⟨68, _⟩ => ⟨S1x512x32768, .f32⟩
  | .hbm, ⟨69, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.Body.lean ====
/- The kernel's body in its own shape: one statement per loop of the source, with the offset to a peer as a variable.
   `body_eq` says that the printed body is it, by unfolding. Everything later is about `body`: a loop over the thirty-one
   offsets is then one induction. -/
module

public import proofs.«01_k».proof.Proof.Gen.KernelIdeal.Skeleton
public import proofs.«01_k».proof.Proof.Gen.KernelIdeal.Points
public import Idealize.ShloMosaic.Lib.Pipeline.Regions

@[expose] public section

noncomputable section

namespace Cert.KernelIdeal.Hand

open Idealize.ShloMosaic Idealize.SL.Sem Cert.KernelIdeal Cert.KernelIdeal.Gen

variable {F : FTy → Type} [FloatOps F]

/-- A program of the body. -/
abbrev Code (F : FTy → Type) [FloatOps F] (α : Type) := Prog (TpuEff nD τ sig (Elt F) Λ₀ .tc) α

/-! ## Devices and rows, as the kernel computes them -/

/-- A device's place in the ring. -/
def place (d : Dev nD) : BitVec 32 := Scalar.remsi (Scalar.divsi (Dev.word d) 1#32) 32#32

/-- The device `w` places on. -/
def peerW (d : Dev nD) (w : BitVec 32) : Nat :=
  (Scalar.addi 0#32 (Scalar.muli (Scalar.remsi (Scalar.addi (place d) w) 32#32) 1#32)).toNat

theorem peerW_eq : ∀ (d : Dev nD) (o : Fin 32), peerW d (BitVec.ofNat 32 o.val) = (d.val + o.val) % 32 := by decide +kernel

theorem peerW_lt (d : Dev nD) (o : Fin 32) : peerW d (BitVec.ofNat 32 o.val) < nD := by
  rw [peerW_eq]; exact Nat.mod_lt _ (by decide)

/-- The device `o` places on, a device of the mesh. -/
def peer (d : Dev nD) (o : Fin 32) : Dev nD := ⟨peerW d (BitVec.ofNat 32 o.val), peerW_lt d o⟩

/-- Where the rows of group `g` start in the wrapped copy of the input. -/
def rowOff (d : Dev nD) (g : Fin 4) : Fin 2 → Nat := k0_off1 d (BitVec.ofNat 32 (8 * g.val))
/-- Where the result's rows reduced by the device `o` places back start. -/
def outOff (d : Dev nD) (o : Fin 32) : Fin 3 → Nat := k0_off3 d (BitVec.ofNat 32 o.val)

theorem rowOff_eq : ∀ (d : Dev nD) (g : Fin 4), rowOff d g = ![((d.val + 1 + 8 * g.val) % 32) * 16, 0] := by decide +kernel
theorem outOff_eq : ∀ (d : Dev nD) (o : Fin 32), outOff d o = ![0, ((d.val + 32 - o.val) % 32) * 16, 0] := by decide +kernel
theorem ownOff_eq : ∀ d : Dev nD, k0_off2 d = ![0, d.val * 16, 0] := by decide +kernel

theorem rowOff_inb (d : Dev nD) (g : Fin 4) : ∀ a, rowOff d g a + S128x1024.size a ≤ S640x1024.size a := k0_off1_inb d g
theorem outOff_inb : ∀ (d : Dev nD) (o : Fin 32), ∀ a, outOff d o a + S1x16x1024.size a ≤ S1x512x1024.size a := by decide +kernel

theorem slot_inb : ∀ (o : Fin 32), ∀ a, (![o.val, 0, 0] : Fin 3 → Nat) a + S1x16x1024.size a ≤ S32x16x1024.size a := by decide +kernel
theorem chunk_inb : ∀ (o : Fin 32), ∀ a, (![o.val / 8, o.val % 8, 0, 0] : Fin 4 → Nat) a + S1x1x16x1024.size a ≤ S4x8x16x1024.size a := by
  decide +kernel
theorem sem_inb : ∀ (o : Fin 32), ∀ a, (![o.val] : Fin 1 → Nat) a + S1.size a ≤ S32.size a := by decide +kernel
theorem stage_inb : ∀ (g : Fin 4), ∀ a, (![g.val, 0, 0, 0] : Fin 4 → Nat) a + S1x8x16x1024.size a ≤ S4x8x16x1024.size a := by decide +kernel

theorem slot_words : ∀ o : Fin 32, (Rect.unit (s := S32x16x1024) ![o.val, 0, 0] S1x16x1024.size (slot_inb o)).WholeWords (EltTy.packing .bf16) := by
  decide +kernel
theorem chunk_words : ∀ o : Fin 32, (Rect.unit (s := S4x8x16x1024) ![o.val / 8, o.val % 8, 0, 0] S1x1x16x1024.size (chunk_inb o)).WholeWords
    (EltTy.packing .bf16) := by
  decide +kernel
theorem stage_packed : ∀ g : Fin 4, (Rect.unit (s := S4x8x16x1024) ![g.val, 0, 0, 0] S1x8x16x1024.size (stage_inb g)).PackedRows
    (EltTy.packing .bf16) := by
  decide +kernel

/-! ## The pieces the copies move -/

/-- Slot `o` of a landing buffer: where the chunk of the device `o` places back lands. -/
def slot (M : Memref sig .tc .vmem S32x16x1024 .bf16) (o : Fin 32) : Memref sig .tc .vmem S16x1024 .bf16 :=
  (M.slice (Rect.unit (s := S32x16x1024) ![o.val, 0, 0] S1x16x1024.size (slot_inb o)) (fun _ => rfl)).squeeze S16x1024 squeezes_S1x16x1024_S16x1024

/-- The staged chunk number `i`, of group `i / 8`. -/
def chunk (M : Memref sig .tc .vmem S4x8x16x1024 .bf16) (i : Fin 32) : Memref sig .tc .vmem S16x1024 .bf16 :=
  (M.slice (Rect.unit (s := S4x8x16x1024) ![i.val / 8, i.val % 8, 0, 0] S1x1x16x1024.size (chunk_inb i)) (fun _ => rfl)).squeeze S16x1024
    squeezes_S1x1x16x1024_S16x1024

/-- Semaphore `o` of a row. -/
def semOf (A : DmaSems sig S32) (o : Fin 32) : DmaSem sig :=
  ((A.slice (Rect.unit (s := S32) ![o.val] S1.size (sem_inb o))).squeeze S_ squeezes_S1_S_).sem

theorem slot_exact {M : Memref sig .tc .vmem S32x16x1024 .bf16} (hM : M.IsWhole) (o : Fin 32) : (slot M o).view.WordExact :=
  (hM.wordExact_slice rfl _ (slot_words o)).reshape _ _
theorem chunk_exact {M : Memref sig .tc .vmem S4x8x16x1024 .bf16} (hM : M.IsWhole) (i : Fin 32) : (chunk M i).view.WordExact :=
  (hM.wordExact_slice rfl _ (chunk_words i)).reshape _ _

/-- The barrier semaphore. -/
abbrev barS : Sem sig := (SemArray.scalar (sig.barrier 0 rfl) : Sems sig S_).sem

/-! ## Loops -/

/-- `f` at each of a list, in order. -/
def each {α : Type} (f : α → Code F PUnit) : List α → Code F PUnit
  | [] => pure ⟨⟩
  | a :: l => f a >>= fun _ => each f l

/-- The offsets to the peers: all but 0. -/
def offs : List (Fin 32) := [1, 2, 3, 4, 5, 6, 7, 8, 9, 10, 11, 12, 13, 14, 15, 16, 17, 18, 19, 20, 21, 22, 23, 24, 25, 26, 27, 28, 29, 30, 31]

/-- The chunks of each group that are sent: the last of all is the device's own. -/
def sent : Fin 4 → List (Fin 31)
  | 0 => [0, 1, 2, 3, 4, 5, 6, 7]
  | 1 => [8, 9, 10, 11, 12, 13, 14, 15]
  | 2 => [16, 17, 18, 19, 20, 21, 22, 23]
  | 3 => [24, 25, 26, 27, 28, 29, 30]

/-- Offset of a sent chunk. -/
abbrev offOf (i : Fin 31) : Fin 32 := i.succ
/-- The chunk of an offset; offset 0, the device itself, has the last. -/
def chOf (o : Fin 32) : Fin 32 := o - 1

/-! ## The values -/

theorem slq : ∀ h : Fin 8, S128x1024.Slices ![0, 128 * h.val] S128x128 := by decide +kernel
theorem slk : ∀ h : Fin 8, S2048x1024.Slices ![0, 128 * h.val] S2048x128 := by decide +kernel

/-- The projected queries of a group. -/
def qOf (wq : FVec F S1024x1024 .bf16) (xs : Vec F S128x1024 .f32) : FVec F S128x1024 .bf16 :=
  truncf .bf16 (matmul dot_S128x1024_S1024x1024_S128x1024_1_0_0_1_n_n none (truncf .bf16 xs bitsLt_bf16_f32) wq
    (constant S128x1024 .f32 0x00000000#32)) bitsLt_bf16_f32

/-- Scaled scores of one head. -/
def scores (q : FVec F S128x1024 .bf16) (k : FVec F S2048x1024 .bf16) (h : Fin 8) : FVec F S128x2048 .f32 :=
  mulf (matmul dot_S128x128_S2048x128_S128x2048_1_1_0_0_n_n none
    (extractStridedSlice S128x128 ![0, 128 * h.val] q (slq h)) (extractStridedSlice S2048x128 ![0, 128 * h.val] k (slk h))
    (constant S128x2048 .f32 0x00000000#32)) (broadcast S128x2048 (Scalar.ofBits .f32 0x3DB504F3#32))

/-- The exponentials of scores less their row's greatest. -/
def exps (s : FVec F S128x2048 .f32) : FVec F S128x2048 .f32 :=
  exp (subf s (broadcastTo S128x2048 (shapeCast S128x1
    (multiReduction .maximumf [1] S128 s 0xFF800000#32 reduces_S128x2048_S128 (.inl rfl) rfl) shapeCasts_S128_S128x1) broadcasts_S128x1_S128x2048))

/-- The weighted mean of the values under those exponentials. -/
def meanOf (p : FVec F S128x2048 .f32) (v : FVec F S2048x128 .bf16) : FVec F S128x128 .f32 :=
  divf (matmul dot_S128x2048_S2048x128_S128x128_1_0_0_1_n_n none (truncf .bf16 p bitsLt_bf16_f32) v (constant S128x128 .f32 0x00000000#32))
    (broadcastTo S128x128 (shapeCast S128x1
      (multiReduction .add [1] S128 p 0x00000000#32 reduces_S128x2048_S128 (.inl rfl) rfl) shapeCasts_S128_S128x1) broadcasts_S128x1_S128x128)

/-- One head's attention on a group's queries. -/
def headOf (q : FVec F S128x1024 .bf16) (k v : FVec F S2048x1024 .bf16) (h : Fin 8) : FVec F S128x128 .f32 :=
  meanOf (exps (scores q k h)) (extractStridedSlice S2048x128 ![0, 128 * h.val] v (slk h))

/-- The eight heads side by side. -/
def headsOf (q : FVec F S128x1024 .bf16) (k v : FVec F S2048x1024 .bf16) : FVec F S128x1024 .f32 :=
  concatenate S128x1024 1 [⟨S128x128, headOf q k v 0⟩, ⟨S128x128, headOf q k v 1⟩, ⟨S128x128, headOf q k v 2⟩, ⟨S128x128, headOf q k v 3⟩,
      ⟨S128x128, headOf q k v 4⟩, ⟨S128x128, headOf q k v 5⟩, ⟨S128x128, headOf q k v 6⟩, ⟨S128x128, headOf q k v 7⟩]
    concatenates_S128x128_S128x128_S128x128_S128x128_S128x128_S128x128_S128x128_S128x128_S128x1024_d1

/-- The projection of the heads. -/
def projOf (wo : FVec F S1024x1024 .bf16) (o : FVec F S128x1024 .f32) : FVec F S128x1024 .bf16 :=
  truncf .bf16 (matmul dot_S128x1024_S1024x1024_S128x1024_1_0_0_1_n_n none (truncf .bf16 o bitsLt_bf16_f32) wo
    (constant S128x1024 .f32 0x00000000#32)) bitsLt_bf16_f32

/-- The partial result of a group of 128 rows, as it is staged. -/
def partOf (wq wo : FVec F S1024x1024 .bf16) (k v : FVec F S2048x1024 .bf16) (xs : Vec F S128x1024 .f32) : FVec F S1x8x16x1024 .bf16 :=
  shapeCast S1x8x16x1024 (shapeCast S8x16x1024 (projOf wo (headsOf (qOf wq xs) k v)) shapeCasts_S128x1024_S8x16x1024)
    shapeCasts_S8x16x1024_S1x8x16x1024

/-- The reduced rows, and as they are sent. -/
def redOf (b : Vec F S32x16x1024 .bf16) : FVec F S16x1024 .f32 :=
  multiReduction .add [0] S16x1024 (extf .f32 b bitsLt_bf16_f32) 0x00000000#32 reduces_S32x16x1024_S16x1024 (.inl rfl) rfl
def redSent (b : Vec F S32x16x1024 .bf16) : FVec F S16x1024 .bf16 :=
  shapeCast S16x1024 (truncf .bf16 (redOf b) bitsLt_bf16_f32) shapeCasts_S16x1024_S16x1024
/-- Gathered rows, as they are stored. -/
def gathered (b : Vec F S1x16x1024 .bf16) : FVec F S1x16x1024 .f32 :=
  shapeCast S1x16x1024 (extf .f32 (shapeCast S16x1024 b shapeCasts_S1x16x1024_S16x1024) bitsLt_bf16_f32) shapeCasts_S16x1024_S1x16x1024

/-! ## The body -/

section Body

variable (arg0 : Memref sig .tc .vmem S1x512x1024 .f32) (harg0 : arg0.IsWhole) (arg1 : Memref sig .tc .vmem S1024x1024 .f32) (harg1 : arg1.IsWhole)
  (arg2 : Memref sig .tc .vmem S1024x1024 .f32) (harg2 : arg2.IsWhole) (arg3 : Memref sig .tc .vmem S1x2048x8x128 .f32) (harg3 : arg3.IsWhole)
  (arg4 : Memref sig .tc .vmem S1x2048x8x128 .f32) (harg4 : arg4.IsWhole) (arg5 : Memref sig .tc .vmem S1x512x1024 .f32) (harg5 : arg5.IsWhole)
  (arg6 : Memref sig .tc .vmem S640x1024 .f32) (harg6 : arg6.IsWhole) (arg7 : Memref sig .tc .vmem S4x8x16x1024 .bf16) (harg7 : arg7.IsWhole)
  (arg8 : Memref sig .tc .vmem S32x16x1024 .bf16) (harg8 : arg8.IsWhole) (arg9 : Memref sig .tc .vmem S16x1024 .bf16) (harg9 : arg9.IsWhole)
  (arg10 : Memref sig .tc .vmem S32x16x1024 .bf16) (harg10 : arg10.IsWhole)
  (arg11 arg12 arg13 arg14 : DmaSems sig S32)

/-- Greet the device `o` places on. -/
def greet (d : Dev nD) (o : Fin 32) : Code F PUnit := semSignalWord (peer d o) barS 1#32

/-- Send the chunk of the rows the device `o` places on reduces. -/
def sendPart (d : Dev nD) (o : Fin 32) : Code F PUnit :=
  Prog.lift (.enqueueDma (chunk arg7 (chOf o)) (.remote (Dev.tc (peer d o)) (slot arg8 o) (.dma (semOf arg11 o))) (.dma (semOf arg12 o))
    (chunk_exact harg7 (chOf o)) (slot_exact harg8 o) ⟨⟨rfl, Or.inl rfl⟩, trivial⟩)
/-- Wait for the chunk of the device `o` places back. -/
def recvPart (o : Fin 32) : Code F PUnit :=
  Prog.lift (.waitDma2 (semOf arg12 o) (chunk arg7 (chOf o)) (slot arg8 o) (chunk_exact harg7 (chOf o)) (slot_exact harg8 o))
/-- Wait until the chunk sent `o` places on has been read. -/
def donePart (o : Fin 32) : Code F PUnit :=
  Prog.lift (.waitDma2 (semOf arg11 o) (slot arg8 o) (chunk arg7 (chOf o)) (slot_exact harg8 o) (chunk_exact harg7 (chOf o)))

/-- Send the reduced rows `o` places on. -/
def sendRed (d : Dev nD) (o : Fin 32) : Code F PUnit :=
  Prog.lift (.enqueueDma arg9 (.remote (Dev.tc (peer d o)) (slot arg10 o) (.dma (semOf arg13 o))) (.dma (semOf arg14 o))
    harg9.wordExact (slot_exact harg10 o) ⟨⟨rfl, Or.inl rfl⟩, trivial⟩)
/-- Wait for the reduced rows of the device `o` places back. -/
def recvRed (o : Fin 32) : Code F PUnit :=
  Prog.lift (.waitDma2 (semOf arg14 o) arg9 (slot arg10 o) harg9.wordExact (slot_exact harg10 o))
/-- Wait until the reduced rows sent `o` places on have been read. -/
def doneRed (o : Fin 32) : Code F PUnit :=
  Prog.lift (.waitDma2 (semOf arg13 o) (slot arg10 o) arg9 (slot_exact harg10 o) harg9.wordExact)

/-- One group: its rows' partial result, staged. -/
def stageGroup (wq wo : FVec F S1024x1024 .bf16) (k v : FVec F S2048x1024 .bf16) (d : Dev nD) (g : Fin 4) : Code F PUnit := do
  let xs : Vec F S128x1024 .f32 ← Prog.lift (.load arg6 (Rect.unit (s := S640x1024) (rowOff d g) S128x1024.size (rowOff_inb d g)).toLoadRect
    (View.loadsAt_vmem h_S128x1024))
  let _ : Vec F S1x8x16x1024 .bf16 ← Prog.lift (.load arg7 (Rect.unit (s := S4x8x16x1024) ![g.val, 0, 0, 0] S1x8x16x1024.size (stage_inb g)).toLoadRect
    (View.loadsAt_vmem h_S1x8x16x1024))
  Prog.lift (.store arg7 (Rect.unit (s := S4x8x16x1024) ![g.val, 0, 0, 0] S1x8x16x1024.size (stage_inb g)) (partOf wq wo k v xs) Finset.univ
    (View.stores_vmem h_S1x8x16x1024 (harg7.storeExact_slice rfl _ (stage_packed g)) (fun _ => rfl)) (.inl rfl))

/-- Store the gathered rows of the device `o` places back. -/
def unpack (d : Dev nD) (o : Fin 32) : Code F PUnit := do
  let b : Vec F S1x16x1024 .bf16 ← Prog.lift (.load arg10 (Rect.unit (s := S32x16x1024) ![o.val, 0, 0] S1x16x1024.size (slot_inb o)).toLoadRect
    (View.loadsAt_vmem h_S1x16x1024))
  let _ : Vec F S1x16x1024 .f32 ← Prog.lift (.load arg5 (Rect.unit (s := S1x512x1024) (outOff d o) S1x16x1024.size (outOff_inb d o)).toLoadRect
    (View.loadsAt_vmem h_S1x16x1024))
  Prog.lift (.store arg5 (Rect.unit (s := S1x512x1024) (outOff d o) S1x16x1024.size (outOff_inb d o)) (gathered b) Finset.univ
    (View.stores_vmem_bits_univ h_S1x16x1024 rfl) (.inl rfl))

/-- The input twice over its wrapped rows. -/
def copyIn : Code F PUnit := do
  let x : Vec F S1x512x1024 .f32 ← Prog.lift (.load arg0 (Rect.unit (s := S1x512x1024) ![0, 0, 0] S1x512x1024.size inb_S1x512x1024_S1x512x1024_0_0_0).toLoadRect
    (View.loadsAt_vmem h_S1x512x1024))
  let _ : Vec F S512x1024 .f32 ← Prog.lift (.load arg6 (Rect.unit (s := S640x1024) ![0, 0] S512x1024.size inb_S640x1024_S512x1024_0_0).toLoadRect
    (View.loadsAt_vmem h_S512x1024))
  Prog.lift (.store arg6 (Rect.unit (s := S640x1024) ![0, 0] S512x1024.size inb_S640x1024_S512x1024_0_0) (k0_pay2 x) Finset.univ
    (View.stores_vmem_bits_univ h_S512x1024 rfl) (.inl rfl))
  let _ : Vec F S128x1024 .f32 ← Prog.lift (.load arg6 (Rect.unit (s := S640x1024) ![512, 0] S128x1024.size inb_S640x1024_S128x1024_512_0).toLoadRect
    (View.loadsAt_vmem h_S128x1024))
  Prog.lift (.store arg6 (Rect.unit (s := S640x1024) ![512, 0] S128x1024.size inb_S640x1024_S128x1024_512_0) (k0_pay3 x) Finset.univ
    (View.stores_vmem_bits_univ h_S128x1024 rfl) (.inl rfl))

/-- The device's own chunk, into its own slot. -/
def keepOwn : Code F PUnit := do
  let b : Vec F S1x1x16x1024 .bf16 ← Prog.lift (.load arg7 (Rect.unit (s := S4x8x16x1024) ![3, 7, 0, 0] S1x1x16x1024.size
    inb_S4x8x16x1024_S1x1x16x1024_3_7_0_0).toLoadRect (View.loadsAt_vmem h_S1x1x16x1024))
  let _ : Vec F S1x16x1024 .bf16 ← Prog.lift (.load arg8 (Rect.unit (s := S32x16x1024) ![0, 0, 0] S1x16x1024.size inb_S32x16x1024_S1x16x1024_0_0_0).toLoadRect
    (View.loadsAt_vmem h_S1x16x1024))
  Prog.lift (.store arg8 (Rect.unit (s := S32x16x1024) ![0, 0, 0] S1x16x1024.size inb_S32x16x1024_S1x16x1024_0_0_0) (k0_pay77 b) Finset.univ
    (View.stores_vmem h_S1x16x1024 (harg8.storeExact_slice rfl _ packedbf16_S32x16x1024_S1x16x1024_0_0_0) (fun _ => rfl)) (.inl rfl))

/-- The reduction: the sent form, and the device's own rows of the result. -/
def reduce (d : Dev nD) : Code F PUnit := do
  let b : Vec F S32x16x1024 .bf16 ← Prog.lift (.load arg8 (Rect.unit (s := S32x16x1024) ![0, 0, 0] S32x16x1024.size
    inb_S32x16x1024_S32x16x1024_0_0_0).toLoadRect (View.loadsAt_vmem h_S32x16x1024))
  let _ : Vec F S16x1024 .bf16 ← Prog.lift (.load arg9 (Rect.unit (s := S16x1024) ![0, 0] S16x1024.size inb_S16x1024_S16x1024_0_0).toLoadRect
    (View.loadsAt_vmem h_S16x1024))
  Prog.lift (.store arg9 (Rect.unit (s := S16x1024) ![0, 0] S16x1024.size inb_S16x1024_S16x1024_0_0) (redSent b) Finset.univ
    (View.stores_vmem h_S16x1024 (harg9.storeExact_slice rfl _ packedbf16_S16x1024_S16x1024_0_0) (fun _ => rfl)) (.inl rfl))
  let _ : Vec F S1x16x1024 .f32 ← Prog.lift (.load arg5 (Rect.unit (s := S1x512x1024) (k0_off2 d) S1x16x1024.size (k0_off2_inb d)).toLoadRect
    (View.loadsAt_vmem h_S1x16x1024))
  Prog.lift (.store arg5 (Rect.unit (s := S1x512x1024) (k0_off2 d) S1x16x1024.size (k0_off2_inb d)) (k0_pay80 (redOf b)) Finset.univ
    (View.stores_vmem_bits_univ h_S1x16x1024 rfl) (.inl rfl))

/-- One group: staged, then its chunks sent. -/
def group (wq wo : FVec F S1024x1024 .bf16) (k v : FVec F S2048x1024 .bf16) (d : Dev nD) (g : Fin 4) : Code F PUnit := do
  stageGroup arg6 arg7 harg7 wq wo k v d g
  each (fun i => sendPart arg7 harg7 arg8 harg8 arg11 arg12 d (offOf i)) (sent g)

/-- The whole body. -/
def body : Code F PUnit := do
  let d : Dev nD ← Prog.lift .deviceId
  each (greet d) offs
  semWaitWord barS 31#32
  copyIn arg0 arg6
  let wq : Vec F S1024x1024 .f32 ← Prog.lift (.load arg1 (Rect.unit (s := S1024x1024) ![0, 0] S1024x1024.size inb_S1024x1024_S1024x1024_0_0).toLoadRect
    (View.loadsAt_vmem h_S1024x1024))
  let wo : Vec F S1024x1024 .f32 ← Prog.lift (.load arg2 (Rect.unit (s := S1024x1024) ![0, 0] S1024x1024.size inb_S1024x1024_S1024x1024_0_0).toLoadRect
    (View.loadsAt_vmem h_S1024x1024))
  let k : Vec F S1x2048x8x128 .f32 ← Prog.lift (.load arg3 (Rect.unit (s := S1x2048x8x128) ![0, 0, 0, 0] S1x2048x8x128.size
    inb_S1x2048x8x128_S1x2048x8x128_0_0_0_0).toLoadRect (View.loadsAt_vmem h_S1x2048x8x128))
  let v : Vec F S1x2048x8x128 .f32 ← Prog.lift (.load arg4 (Rect.unit (s := S1x2048x8x128) ![0, 0, 0, 0] S1x2048x8x128.size
    inb_S1x2048x8x128_S1x2048x8x128_0_0_0_0).toLoadRect (View.loadsAt_vmem h_S1x2048x8x128))
  each (group arg6 arg7 harg7 arg8 harg8 arg11 arg12 (k0_pay4 wq) (k0_pay5 wo) (k0_pay6 k) (k0_pay7 v) d) [0, 1, 2, 3]
  keepOwn arg7 arg8 harg8
  each (recvPart arg7 harg7 arg8 harg8 arg12) offs
  reduce arg5 arg8 arg9 harg9 d
  each (sendRed arg9 harg9 arg10 harg10 arg13 arg14 d) offs
  each (recvRed arg9 harg9 arg10 harg10 arg14) offs
  each (unpack arg5 arg10 d) offs
  each (donePart arg7 harg7 arg8 harg8 arg11) offs
  each (doneRed arg9 harg9 arg10 harg10 arg13) offs

/-- The printed body is `body`. -/
theorem body_eq : cc0_body_skel (F := F) arg0 harg0 arg1 harg1 arg2 harg2 arg3 harg3 arg4 harg4 arg5 harg5 arg6 harg6 arg7 harg7 arg8 harg8
      arg9 harg9 arg10 harg10 arg11 arg12 arg13 arg14
    = body arg0 arg1 arg2 arg3 arg4 arg5 arg6 arg7 harg7 arg8 harg8 arg9 harg9 arg10 harg10 arg11 arg12 arg13 arg14 := by
  chain_rfl

end Body

end Cert.KernelIdeal.Hand

end
-- ==== Proof.Cells.lean ====
/- The kernel's buffers and semaphores, and what is in them: the contents that each copy moves, as functions of the memory
   at launch. -/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pointwise.Index
public import Idealize.ShloMosaic.Lib.ValueLayout
public import Idealize.ShloMosaic.Lib.ShareLeaves
public import Idealize.ShloMosaic.Lib.Ring
public import Idealize.ShloMosaic.Lib.Rounds.Family
public import Idealize.ShloMosaic.Lib.Pipeline.BigSepL
public import Idealize.ShloMosaic.Lib.Tactic

@[expose] public section

noncomputable section

namespace Cert.KernelIdeal.Hand

open Idealize.ShloMosaic Idealize.ShloMosaic.TcCoe
open Idealize.SL Idealize.SL.RA Idealize.SL.BI Idealize.SL.Sem
open Cert.KernelIdeal Cert.KernelIdeal.Gen

variable {F : FTy → Type} [FloatOps F]

/-! ## Buffers -/

abbrev xM : Memref sig .tc .vmem S1x512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .vmem S1x2048x8x128 .f32 := Memref.whole cc0_stg3_0
abbrev vM : Memref sig .tc .vmem S1x2048x8x128 .f32 := Memref.whole cc0_stg4_0
abbrev oM : Memref sig .tc .vmem S1x512x1024 .f32 := Memref.whole cc0_stg5_0
abbrev catM : Memref sig .tc .vmem S640x1024 .f32 := Memref.whole cc0_scratch0
abbrev stM : Memref sig .tc .vmem S4x8x16x1024 .bf16 := Memref.whole cc0_scratch1
abbrev rsM : Memref sig .tc .vmem S32x16x1024 .bf16 := Memref.whole cc0_scratch2
abbrev redM : Memref sig .tc .vmem S16x1024 .bf16 := Memref.whole cc0_scratch3
abbrev agM : Memref sig .tc .vmem S32x16x1024 .bf16 := Memref.whole cc0_scratch4

/-! ## Devices -/

/-- The device `o` places back. -/
def back (c : Dev nD) (o : Fin 32) : Dev nD := ⟨(c.val + 32 - o.val) % 32, Nat.mod_lt _ (by decide)⟩

theorem peer_val (c : Dev nD) (o : Fin 32) : (peer c o).val = (c.val + o.val) % 32 := peerW_eq c o
theorem peer_back (c : Dev nD) (o : Fin 32) : peer (back c o) o = c :=
  Fin.ext (by rw [peer_val]; unfold back; have := c.isLt; have : nD = 32 := rfl; dsimp only; omega)
theorem back_peer (c : Dev nD) (o : Fin 32) : back (peer c o) o = c :=
  Fin.ext (by
    show ((peer c o).val + 32 - o.val) % 32 = c.val
    have := c.isLt; have : nD = 32 := rfl; rw [peer_val]; omega)

/-- The offset the other way round. -/
def opp (o : Fin 32) : Fin 32 := ⟨(32 - o.val) % 32, Nat.mod_lt _ (by decide)⟩
theorem opp_opp (o : Fin 32) : opp (opp o) = o := Fin.ext (by unfold opp; dsimp only; omega)
theorem back_opp (c : Dev nD) (o : Fin 32) : back c (opp o) = peer c o :=
  Fin.ext (by rw [peer_val]; unfold back opp; have := c.isLt; have : nD = 32 := rfl; dsimp only; omega)

/-- Moving every device `o` places. -/
def shift (o : Fin 32) : Dev nD ≃ Dev nD := ⟨fun c => peer c o, fun c => back c o, fun c => back_peer c o, fun c => peer_back c o⟩
def oppE : Fin 32 ≃ Fin 32 := ⟨opp, opp, opp_opp, opp_opp⟩

/-! ## Semaphores -/

/-- Number `o` of the four rows: partial chunks sent and received, reduced rows sent and received. -/
def dsem (k : Fin 4) (o : Fin 32) : DmaSem sig := match k with
  | 0 => semOf cc0_scratch5 o
  | 1 => semOf cc0_scratch6 o
  | 2 => semOf cc0_scratch7 o
  | 3 => semOf cc0_scratch8 o

/-- A semaphore of the kernel: the barrier, or one of the four rows. -/
abbrev Cell := Option (Fin 4 × Fin 32)

abbrev csem : Cell → SemLoc sig
  | none => .reg barS
  | some (k, o) => .dma (dsem k o)

/-- Which semaphore a location is. -/
def dec : SemLoc sig → Option Cell
  | .reg s => if s = barS then some none else none
  | .dma s => if h : 6 ≤ s.val ∧ s.val < 134 then
      some (some (⟨(s.val - 6) / 32, by omega⟩, ⟨(s.val - 6) % 32, Nat.mod_lt _ (by decide)⟩)) else none

theorem dec_csem : ∀ k : Cell, dec (csem k) = some k := by decide +kernel

theorem csem_injective : Function.Injective csem := fun a b h => by
  have := congrArg dec h
  rw [dec_csem, dec_csem] at this
  exact Option.some.inj this

abbrev kcell (c : Dev nD) (k : Cell) : GSem nD τ sig := ((c : Thread nD τ), csem k)
abbrev barCell (c : Dev nD) : GSem nD τ sig := kcell c none
abbrev dcell (c : Dev nD) (k : Fin 4) (o : Fin 32) : GSem nD τ sig := kcell c (some (k, o))

/-- The kernel's own semaphores. -/
abbrev osem : Fin 4 × Fin 32 → SemLoc sig := fun p => csem (some p)

/-- Credit of one chunk. -/
abbrev N : ℕ := redM.view.dmaCredit
theorem N_pos : 0 < N := View.dmaCredit_pos _ (by decide)
theorem slot_credit (M : Memref sig .tc .vmem S32x16x1024 .bf16) (o : Fin 32) : (slot M o).view.dmaCredit = N := rfl

/-! ## Contents -/

variable (m : (ℓ : Loc nD τ sig) → Buf (Elt F) ℓ) (ρ : Dev nD → PrngReg)

/-- The memory at launch: any contents, every counter zero. -/
def s₀ : MemSt nD τ sig (Elt F) := ⟨m, fun _ => 0, ρ⟩

def xAt (c : Dev nD) : Vec F S1x512x1024 .f32 := (win0_0.blk (0 : Fin 1)).view.read (Elt F) (m ((c : Thread nD τ).loc main_arg0))
def wqAt (c : Dev nD) : Vec F S1024x1024 .f32 := (win0_1.blk (0 : Fin 1)).view.read (Elt F) (m ((c : Thread nD τ).loc main_arg1))
def woAt (c : Dev nD) : Vec F S1024x1024 .f32 := (win0_2.blk (0 : Fin 1)).view.read (Elt F) (m ((c : Thread nD τ).loc main_arg4))
def kAt (c : Dev nD) : Vec F S1x2048x8x128 .f32 := (win0_3.blk (0 : Fin 1)).view.read (Elt F) (m ((c : Thread nD τ).loc main_arg2))
def vAt (c : Dev nD) : Vec F S1x2048x8x128 .f32 := (win0_4.blk (0 : Fin 1)).view.read (Elt F) (m ((c : Thread nD τ).loc main_arg3))

/-- The input with its first rows repeated below. -/
def catOf (x : Vec F S1x512x1024 .f32) : Vec F S640x1024 .f32 := fun i =>
  x (ix3 (0 : Fin 1) (⟨(i 0).val % 512, Nat.mod_lt _ (by decide)⟩ : Fin 512) (i 1 : Fin 1024))

/-- The rows of group `g`. -/
def rowsOf (c : Dev nD) (x : Vec F S1x512x1024 .f32) (g : Fin 4) : Vec F S128x1024 .f32 :=
  catM.view.readAt (Elt F) (Rect.unit (s := S640x1024) (rowOff c g) S128x1024.size (rowOff_inb c g)).toLoadRect (catOf x)

/-- What device `c` stages for group `g`: its partial result there. -/
def stagedAt (c : Dev nD) (g : Fin 4) : Vec F S1x8x16x1024 .bf16 :=
  partOf (k0_pay4 (wqAt m c)) (k0_pay5 (woAt m c)) (k0_pay6 (kAt m c)) (k0_pay7 (vAt m c)) (rowsOf c (xAt m c) g)

/-- Chunk `i` of it. -/
def chunkAt (c : Dev nD) (i : Fin 32) : Vec F S16x1024 .bf16 := fun y =>
  stagedAt m c ⟨i.val / 8, by omega⟩ (ix4 (0 : Fin 1) (⟨i.val % 8, by omega⟩ : Fin 8) (y 0 : Fin 16) (y 1 : Fin 1024))

/-- What device `c` has received, and its own: slot `o` is from the device `o` places back. -/
def partsAt (c : Dev nD) : Vec F S32x16x1024 .bf16 := fun i =>
  chunkAt m (back c (i 0)) (chOf (i 0)) (ix2 (i 1 : Fin 16) (i 2 : Fin 1024))

/-- The rows device `c` reduces, and as they are sent. -/
def sumAt (c : Dev nD) : FVec F S16x1024 .f32 := redOf (partsAt m c)
def sentAt (c : Dev nD) : Vec F S16x1024 .bf16 := redSent (partsAt m c)

/-- The result on device `c`: its own rows as it reduced them, the others' as they were sent. -/
def outAt (c : Dev nD) : Vec F S1x512x1024 .f32 := fun i =>
  let s : Fin 32 := ⟨(i 1).val / 16, Nat.div_lt_of_lt_mul (i 1).isLt⟩
  let y : S1x16x1024.Idx := ix3 (0 : Fin 1) (⟨(i 1).val % 16, Nat.mod_lt _ (by decide)⟩ : Fin 16) (i 2 : Fin 1024)
  if s = c then k0_pay80 (sumAt m c) y else gathered (fun z => sentAt m s (ix2 (z 1 : Fin 16) (z 2 : Fin 1024))) y

end Cert.KernelIdeal.Hand

end
-- ==== Proof.Geom.lean ====
/- Where the pieces lie in their buffers: the slots of a landing buffer and the chunks of the staging buffer are apart and
   cover it, and what is read through one is the buffer at its place. -/
module

public import proofs.«01_k».proof.Proof.Cells

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

abbrev UB : Type := URounds (GSem nD τ sig) (Fin 32)
abbrev UU : Type := UR sig nD τ × UB

local notation "𝕄" => MT nD τ sig Unit (Elt F) ℕ UU ℕ

abbrev slotR (o : Fin 32) : Rect S32x16x1024 := Rect.unit (s := S32x16x1024) ![o.val, 0, 0] S1x16x1024.size (slot_inb o)
abbrev chunkR (i : Fin 32) : Rect S4x8x16x1024 :=
  Rect.unit (s := S4x8x16x1024) ![i.val / 8, i.val % 8, 0, 0] S1x1x16x1024.size (chunk_inb i)
abbrev stageR (g : Fin 4) : Rect S4x8x16x1024 := Rect.unit (s := S4x8x16x1024) ![g.val, 0, 0, 0] S1x8x16x1024.size (stage_inb g)

/-! ## Element sets -/

theorem mem_slotR (o : Fin 32) (i : S32x16x1024.Idx) : i ∈ (slotR o).set ↔ (i 0).val = o.val := by
  rw [Rect.mem_set_unit]
  refine ⟨fun h => ?_, fun h a => ?_⟩
  · have := h 0; simp only [Matrix.cons_val_zero] at this; omega
  · have := (i a).isLt; fin_cases a
    · simp at this ⊢; omega
    · simp at this ⊢; omega
    · simp at this ⊢; omega

theorem mem_chunkR (o : Fin 32) (i : S4x8x16x1024.Idx) : i ∈ (chunkR o).set ↔ (i 0).val = o.val / 8 ∧ (i 1).val = o.val % 8 := by
  rw [Rect.mem_set_unit]
  refine ⟨fun h => ?_, fun h a => ?_⟩
  · have h0 := h 0; have h1 := h 1; simp at h0 h1; omega
  · have := (i a).isLt; fin_cases a
    · simp at this ⊢; omega
    · simp at this ⊢; omega
    · simp at this ⊢; omega
    · simp at this ⊢; omega

theorem mem_stageR (g : Fin 4) (i : S4x8x16x1024.Idx) : i ∈ (stageR g).set ↔ (i 0).val = g.val := by
  rw [Rect.mem_set_unit]
  refine ⟨fun h => ?_, fun h a => ?_⟩
  · have h0 := h 0; simp at h0; omega
  · have := (i a).isLt; fin_cases a
    · simp at this ⊢; omega
    · simp at this ⊢; omega
    · simp at this ⊢; omega
    · simp at this ⊢; omega

theorem slot_set (M : Memref sig .tc .vmem S32x16x1024 .bf16) (o : Fin 32) : (slot M o).view.set = (slotR o).set.map M.view.emb :=
  (View.set_reshape _ _).trans (View.set_slice _ _)
theorem chunk_set (M : Memref sig .tc .vmem S4x8x16x1024 .bf16) (i : Fin 32) : (chunk M i).view.set = (chunkR i).set.map M.view.emb :=
  (View.set_reshape _ _).trans (View.set_slice _ _)

theorem slot_disjoint (M : Memref sig .tc .vmem S32x16x1024 .bf16) (o o' : Fin 32) (h : o ≠ o') :
    Disjoint (slot M o).view.set (slot M o').view.set := by
  refine Disjoint.mono (le_of_eq (slot_set M o)) (le_of_eq (slot_set M o')) ((Finset.disjoint_map _).mpr (Finset.disjoint_left.mpr ?_))
  intro i hi hi'
  rw [mem_slotR] at hi hi'
  exact h (Fin.ext (hi.symm.trans hi'))

theorem slot_cover (M : Memref sig .tc .vmem S32x16x1024 .bf16) :
    (Finset.univ.biUnion fun o => ((slot M o).view.set : Finset M.view.ty.Idx)) = M.view.set := by
  ext x
  simp only [Finset.mem_biUnion, Finset.mem_univ, true_and, slot_set, Finset.mem_map]
  constructor
  · rintro ⟨o, i, -, rfl⟩; exact M.view.emb_mem_set i
  · intro hx
    obtain ⟨i, -, rfl⟩ := Finset.mem_map.mp hx
    exact ⟨(i 0 : Fin 32), i, (mem_slotR _ _).mpr rfl, rfl⟩

/-- The elements of a chunk, and of a group's chunks. -/
def chunkS (o : Fin 32) : Finset S4x8x16x1024.Idx := (chunk stM o).view.set
def stageS (g : Fin 4) : Finset S4x8x16x1024.Idx := (stM.access (stageR g)).set

theorem mem_chunkS (o : Fin 32) (x : S4x8x16x1024.Idx) : x ∈ chunkS o ↔ (x 0).val = o.val / 8 ∧ (x 1).val = o.val % 8 := by
  rw [← mem_chunkR]
  have : chunkS o = (chunkR o).set.map stM.view.emb := chunk_set stM o
  rw [this, Finset.mem_map]
  exact ⟨fun ⟨i, hi, e⟩ => by have e' : i = x := e; exact e' ▸ hi, fun h => ⟨x, h, rfl⟩⟩
theorem mem_stageS (g : Fin 4) (x : S4x8x16x1024.Idx) : x ∈ stageS g ↔ (x 0).val = g.val := by
  rw [← mem_stageR]
  have : stageS g = (stageR g).set := View.set_slice_whole _ _
  rw [this]

theorem chunk_disjoint (o o' : Fin 32) (h : o ≠ o') : Disjoint (chunkS o) (chunkS o') :=
  Finset.disjoint_left.mpr fun x hx hx' => by
    rw [mem_chunkS] at hx hx'
    exact h (Fin.ext (by omega))

theorem chunk_cover : Finset.univ.biUnion chunkS = Finset.univ := by
  ext x
  simp only [Finset.mem_biUnion, Finset.mem_univ, true_and, mem_chunkS, iff_true]
  have h0 : (x 0).val < 4 := (x 0).isLt
  have h1 : (x 1).val < 8 := (x 1).isLt
  exact ⟨⟨8 * (x 0).val + (x 1).val, by omega⟩, by dsimp only; omega, by dsimp only; omega⟩

/-- Chunk `j` of group `g`. -/
def inGroup (g : Fin 4) (j : Fin 8) : Fin 32 := ⟨8 * g.val + j.val, by omega⟩

theorem stage_disjoint (g g' : Fin 4) (h : g ≠ g') : Disjoint (stageS g) (stageS g') :=
  Finset.disjoint_left.mpr fun x hx hx' => by
    rw [mem_stageS] at hx hx'
    exact h (Fin.ext (hx.symm.trans hx'))

theorem stage_cover : Finset.univ.biUnion stageS = Finset.univ := by
  ext x
  simp only [Finset.mem_biUnion, Finset.mem_univ, true_and, iff_true, mem_stageS]
  exact ⟨(x 0 : Fin 4), rfl⟩

theorem group_disjoint (g : Fin 4) (j j' : Fin 8) (h : j ≠ j') : Disjoint (chunkS (inGroup g j)) (chunkS (inGroup g j')) :=
  chunk_disjoint _ _ fun e => h (Fin.ext (by have := congrArg Fin.val e; unfold inGroup at this; dsimp only at this; omega))

theorem group_cover (g : Fin 4) : (Finset.univ.biUnion fun j => chunkS (inGroup g j)) = stageS g := by
  ext x
  simp only [Finset.mem_biUnion, Finset.mem_univ, true_and, mem_stageS, mem_chunkS, inGroup]
  have h1 : (x 1).val < 8 := (x 1).isLt
  exact ⟨fun ⟨j, h, _⟩ => by omega, fun h => ⟨⟨(x 1).val, h1⟩, by omega, by dsimp only; omega⟩⟩

/-! ## Reads -/

theorem slot_read {Val : EltTy → Type} (M : Memref sig .tc .vmem S32x16x1024 .bf16) (o : Fin 32) (f : M.view.ty.Contents Val) :
    (slot M o).view.read Val f = fun y : S16x1024.Idx => M.view.read Val f (ix3 o (y 0 : Fin 16) (y 1 : Fin 1024)) := by
  funext y
  have e (h : S16x1024.numel = S1x16x1024.numel) : Shape.reshapeEquiv h y = ix3 (0 : Fin 1) (y 0 : Fin 16) (y 1 : Fin 1024) := by
    conv_lhs => rw [eq_ix2 y]
    exact ValueIdx.reshapeEquiv_ix2_1ab _ _ _
  show M.view.read Val f ((slotR o).idx (Shape.reshapeEquiv _ y)) = _
  refine congrArg (M.view.read Val f) ?_
  rw [e]
  funext a
  refine Fin.ext ?_
  fin_cases a <;> simp [Rect.unit, ix3]

theorem chunk_read {Val : EltTy → Type} (M : Memref sig .tc .vmem S4x8x16x1024 .bf16) (i : Fin 32) (f : M.view.ty.Contents Val) :
    (chunk M i).view.read Val f = fun y : S16x1024.Idx =>
      M.view.read Val f (ix4 (⟨i.val / 8, by omega⟩ : Fin 4) (⟨i.val % 8, by omega⟩ : Fin 8) (y 0 : Fin 16) (y 1 : Fin 1024)) := by
  funext y
  have e (h : S16x1024.numel = S1x1x16x1024.numel) : Shape.reshapeEquiv h y
      = ix4 (0 : Fin 1) (0 : Fin 1) (y 0 : Fin 16) (y 1 : Fin 1024) := by
    conv_lhs => rw [eq_ix2 y]
    exact ValueIdx.reshapeEquiv_ix2_11ab _ _ _
  show M.view.read Val f ((chunkR i).idx (Shape.reshapeEquiv _ y)) = _
  refine congrArg (M.view.read Val f) ?_
  rw [e]
  funext a
  refine Fin.ext ?_
  fin_cases a <;> simp [Rect.unit, ix4]

end Cert.KernelIdeal.Hand

end
-- ==== Proof.Protocol.lean ====
/- The protocol. Every device signals the barrier semaphore of every other and waits for the thirty-one signals of the
   others on its own; a signal hands over the slot of each landing buffer that the signalled device will write. Then each
   device sends to every other the chunk of its partial result that the other reduces (row 0 of semaphores counts what has
   been read, row 1 what has landed), and sends its reduced rows to every other (rows 2 and 3).

   A duty is named by the offset `o`, 1 to 31. Barrier of device `c`: duty `o`, one unit, is paid by the device `o` places
   back. Semaphore `o` of rows 1 and 3: duty `o`, the credit of a chunk, is paid by the copy of the device `o` places back.
   Semaphore `o` of rows 0 and 2: duty `o`, paid by the device's own copy. All in round 0. Semaphore 0 of each row is not
   used. A device waits on its barrier first, then on row 1, then on row 3, then on rows 0 and 2, when it owes nothing. -/
module

public import proofs.«01_k».proof.Proof.Geom

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## What the landings hand over -/

/-- A piece of a buffer at some contents. -/
def anyAt {s : Shape} {e : EltTy} (c : Dev nD) (M : Memref sig .tc .vmem s e) : sProp 𝕄 :=
  iprop(∃ f, M.view.loc (c : Thread nD τ) ↦[M.view.set]{fullShare} f)

instance anyAt_storable {s : Shape} {e : EltTy} (c : Dev nD) (M : Memref sig .tc .vmem s e) :
    BI.Storable (upEmb : UEmb _ 𝕄) (anyAt (F := F) c M) := by unfold anyAt; infer_instance

/-- Slot `o` of both landing buffers of device `c`. -/
def slotsAt (c : Dev nD) (o : Fin 32) : sProp 𝕄 := iprop(anyAt c (slot rsM o) ∗ anyAt c (slot agM o))

/-- The reduced rows, as they are sent, at the share of the copy to offset `o`. -/
def redLeaf (c : Dev nD) (o : Fin 32) : sProp 𝕄 :=
  redM.view.loc (c : Thread nD τ) ↦[redM.view.set]{ShareLeaves.leaf 5 fullShare o} sentAt m c

/-- What duty `o` of a semaphore of device `c` hands over. -/
def pay (c : Dev nD) : Cell → Fin 32 → sProp 𝕄
  | none, o => slotsAt (back c o) (opp o)
  | some (0, o), _ => anyAt c (chunk stM (chOf o))
  | some (1, o), _ => owns (c : Thread nD τ) (slot rsM o) fullShare (chunkAt m (back c o) (chOf o))
  | some (2, o), _ => redLeaf m c o
  | some (3, o), _ => owns (c : Thread nD τ) (slot agM o) fullShare (sentAt m (back c o))

instance slotsAt_storable (c : Dev nD) (o : Fin 32) : BI.Storable (upEmb : UEmb _ 𝕄) (slotsAt (F := F) c o) := by
  unfold slotsAt; infer_instance
instance redLeaf_storable (c : Dev nD) (o : Fin 32) : BI.Storable (upEmb : UEmb _ 𝕄) (redLeaf (F := F) m c o) := by
  unfold redLeaf; infer_instance
instance pay_storable (c : Dev nD) : ∀ (k : Cell) (d : Fin 32), BI.Storable (upEmb : UEmb _ 𝕄) (pay (F := F) m c k d)
  | none, _ => by unfold pay; infer_instance
  | some (0, _), _ => by unfold pay; infer_instance
  | some (1, _), _ => by unfold pay; infer_instance
  | some (2, _), _ => by unfold pay; infer_instance
  | some (3, _), _ => by unfold pay; infer_instance

/-! ## The schedule -/

/-- The duties of a semaphore. -/
def duty : Cell → Finset (Fin 32)
  | none => Finset.univ.erase 0
  | some (_, o) => if o = 0 then ∅ else {o}

def Rd : Rounds.Schedule (GSem nD τ sig) (Fin 32) 𝕄 where
  duties g r := if r = 0 ∧ g.1.2 = .tc then (dec g.2).elim ∅ duty else ∅
  unitless _ := False
  amount g _ _ := match dec g.2 with | some (some _) => N | _ => 1
  payload g _ d := (dec g.2).elim iprop(emp) fun k => pay m g.1.1 k d
  amount_pos g _ _ _ := by split; exacts [N_pos, Nat.one_pos]

instance Rd_storable (g : GSem nD τ sig) (r : ℕ) (d : Fin 32) : BI.Storable (upEmb : UEmb _ 𝕄) ((Rd (F := F) m).payload g r d) := by
  unfold Rd; dsimp only
  cases dec g.2 <;> (dsimp only [Option.elim]; infer_instance)

theorem duties_k (c : Dev nD) (k : Cell) : (Rd (F := F) m).duties (kcell c k) 0 = duty k := by
  unfold Rd; dsimp only; rw [dec_csem]; exact if_pos ⟨rfl, rfl⟩
theorem duties_later (g : GSem nD τ sig) : ∀ r, 1 ≤ r → (Rd (F := F) m).duties g r = ∅ := fun r hr => by
  unfold Rd; dsimp only; exact if_neg fun h => by omega
theorem duties_zero (c : Dev nD) (k : Fin 4) : ∀ r, 0 ≤ r → (Rd (F := F) m).duties (dcell c k 0) r = ∅ := fun r _ => by
  rcases Nat.eq_zero_or_pos r with rfl | h
  · rw [duties_k]; rfl
  · exact duties_later m _ r h
theorem amount_bar (c : Dev nD) (d : Fin 32) : (Rd (F := F) m).amount (barCell c) 0 d = 1 := by
  unfold Rd; dsimp only; rw [dec_csem]
theorem amount_d (c : Dev nD) (k : Fin 4) (o d : Fin 32) : (Rd (F := F) m).amount (dcell c k o) 0 d = N := by
  unfold Rd; dsimp only; rw [dec_csem]
theorem payload_k (c : Dev nD) (k : Cell) (d : Fin 32) : (Rd (F := F) m).payload (kcell c k) 0 d = pay m c k d := by
  unfold Rd; dsimp only; rw [dec_csem]; rfl

theorem mem_duty_bar {o : Fin 32} (h : o ≠ 0) : o ∈ duty none := Finset.mem_erase.mpr ⟨h, Finset.mem_univ _⟩
theorem duty_d (k : Fin 4) {o : Fin 32} (h : o ≠ 0) : duty (some (k, o)) = {o} := if_neg h

theorem expect_bar (c : Dev nD) : (Rd (F := F) m).expect (barCell c) 0 = 31 := by
  unfold Schedule.expect Schedule.amountOf
  rw [duties_k, Finset.sum_congr rfl fun d _ => amount_bar m c d]
  rfl
theorem expect_d (c : Dev nD) (k : Fin 4) {o : Fin 32} (h : o ≠ 0) : (Rd (F := F) m).expect (dcell c k o) 0 = N := by
  unfold Schedule.expect Schedule.amountOf
  rw [duties_k, duty_d k h, Finset.sum_singleton, amount_d]

theorem offs_eq : (Finset.univ.erase 0 : Finset (Fin 32)) = offs.toFinset := by decide
theorem offs_nodup : offs.Nodup := by decide
theorem offs_ne : ∀ o ∈ offs, o ≠ 0 := by decide
theorem opps_eq : (Finset.univ.erase 0 : Finset (Fin 32)) = (offs.map opp).toFinset := by decide
theorem opps_nodup : (offs.map opp).Nodup := by decide
theorem mem_offs {o : Fin 32} (h : o ≠ 0) : o ∈ offs := by
  have : o ∈ (Finset.univ.erase 0 : Finset (Fin 32)) := Finset.mem_erase.mpr ⟨h, Finset.mem_univ _⟩
  rw [offs_eq] at this
  exact List.mem_toFinset.mp this

theorem bigSepL_opp (Φ : Fin 32 → sProp 𝕄) : bigSepL offs (fun o => Φ (opp o)) = bigSepL offs Φ := by
  rw [← BI.bigSepL_map opp offs Φ, ← bigSep_eq_bigSepL_of_eq _ opps_eq opps_nodup, ← bigSep_eq_bigSepL_of_eq _ offs_eq offs_nodup]

/-- The slots the barrier wait brings: at offset `o`, those of the device `o` places on. -/
theorem rest_bar (c : Dev nD) : bigSep ((Rd (F := F) m).duties (barCell c) 0 \ ∅) (fun d => (Rd (F := F) m).payload (barCell c) 0 d)
    = bigSepL offs fun o => slotsAt (peer c o) o := by
  rw [Finset.sdiff_empty, duties_k, show duty none = Finset.univ.erase 0 from rfl, bigSep_eq_bigSepL_of_eq offs offs_eq offs_nodup,
    ← bigSepL_opp fun o => slotsAt (F := F) (peer c o) o]
  congr 1
  funext o
  rw [payload_k]
  show slotsAt (back c o) (opp o) = slotsAt (peer c (opp o)) (opp o)
  rw [← back_opp, opp_opp]
theorem rest_d (c : Dev nD) (k : Fin 4) {o : Fin 32} (h : o ≠ 0) :
    bigSep ((Rd (F := F) m).duties (dcell c k o) 0 \ ∅) (fun d => (Rd (F := F) m).payload (dcell c k o) 0 d) = pay m c (some (k, o)) o := by
  rw [Finset.sdiff_empty, duties_k, duty_d k h, bigSep_singleton, payload_k]

/-! ## What each device owes; the levels -/

/-- The sum of what is owed along a list, the head last. -/
def sumO {α : Type} (f : α → CellTallies nD τ sig Unit) : List α → CellTallies nD τ sig Unit
  | [] => 0
  | a :: l => sumO f l + f a

/-- At offset `o` a device owes a signal, a chunk and its reduced rows. -/
def oweB (c : Dev nD) (o : Fin 32) : CellTallies nD τ sig Unit := tallyAt (barCell (peer c o)) () 1
def oweR (c : Dev nD) (o : Fin 32) : CellTallies nD τ sig Unit := tallyAt (dcell (peer c o) 1 o) () N
def oweA (c : Dev nD) (o : Fin 32) : CellTallies nD τ sig Unit := tallyAt (dcell (peer c o) 3 o) () N

def O₀ (c : Dev nD) : CellTallies nD τ sig Unit := (sumO (oweA c) offs + sumO (oweR c) offs) + sumO (oweB c) offs

def L (g : GSem nD τ sig) : Finset Unit := if g.1.2 = .tc then {()} else ∅
def lvOf : Cell → ℕ
  | none => 1
  | some (1, _) => 2
  | some (3, _) => 3
  | _ => 0
def lv (g : GSem nD τ sig) (_ : Unit) : ℕ := (dec g.2).elim 0 lvOf

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Cell) : lv (kcell c k) () = lvOf k := by unfold lv; rw [dec_csem]; rfl

/-- Everything owed is at a level above `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
theorem above_tally {n : ℕ} (c : Dev nD) (k : Cell) (a : ℕ) (h : n < lvOf k) : Above n (tallyAt (kcell c k) () a) := fun g u hg => by
  rw [tallyAt_apply] at hg
  by_cases e : g = kcell c k ∧ u = ()
  · rw [e.1]; exact ⟨rfl, by rw [lv_k]; exact h⟩
  · rw [if_neg e] at hg; exact absurd hg (Nat.lt_irrefl 0)
theorem above_sum {α : Type} {n : ℕ} {f : α → CellTallies nD τ sig Unit} (h : ∀ a, Above n (f a)) : ∀ l, Above n (sumO f l)
  | [] => above_zero n
  | a :: l => above_add (above_sum h l) (h a)

theorem above_B {n : ℕ} (h : n < 1) (c : Dev nD) (l : List (Fin 32)) : Above n (sumO (oweB c) l) := above_sum (fun o => above_tally _ _ _ h) l
theorem above_R {n : ℕ} (h : n < 2) (c : Dev nD) (l : List (Fin 32)) : Above n (sumO (oweR c) l) := above_sum (fun o => above_tally _ _ _ h) l
theorem above_A {n : ℕ} (h : n < 3) (c : Dev nD) (l : List (Fin 32)) : Above n (sumO (oweA c) l) := above_sum (fun o => above_tally _ _ _ h) l
theorem above_O₀ (c : Dev nD) : Above 0 (O₀ c) :=
  above_add (above_add (above_A (by decide) c _) (above_R (by decide) c _)) (above_B (by decide) c _)

theorem mayWait_of (c : Dev nD) (sm : SemLoc sig) {n : ℕ} {O : CellTallies nD τ sig Unit} (hs : lv ((c : Thread nD τ), sm) () ≤ n)
    (h : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hs)
    (fun g u hg => (h g u hg).2)

/-! ## The invariants -/

/-- Every semaphore's invariant, and that its round 0 is reached. -/
def records (K : Dev nD × Cell → ℕ) : sProp 𝕄 :=
  iprop((bigSep Finset.univ fun ck : Dev nD × Cell => cellInv ER (Rd m) (K ck) (kcell ck.1 ck.2))
    ∗ bigSep Finset.univ fun ck : Dev nD × Cell => reached ER (kcell ck.1 ck.2) 0)

instance records_persistent (K : Dev nD × Cell → ℕ) : BI.Persistent (records (F := F) m K) := by unfold records; infer_instance

theorem inv_at (K : Dev nD × Cell → ℕ) (c : Dev nD) (k : Cell) : records (F := F) m K ⊢ cellInv ER (Rd m) (K (c, k)) (kcell c k) :=
  sep_elim_left.trans (bigSep_elim (Finset.mem_univ (c, k)))
theorem reached_at (K : Dev nD × Cell → ℕ) (c : Dev nD) (k : Cell) : records (F := F) m K ⊢ reached ER (kcell c k) 0 :=
  sep_elim_right.trans (bigSep_elim (Finset.mem_univ (c, k)))

end Cert.KernelIdeal.Hand

end
-- ==== Proof.Steps.lean ====
/- The effects of the body that synchronise: a greeting, a copy, a wait, each with what it takes and what it gives; and the
   induction for a loop. -/
module

public import proofs.«01_k».proof.Proof.Protocol

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A program of the body at device `c`. -/
abbrev run {α : Type} (c : Dev nD) (p : Code F α) (Q : α → sProp 𝕄) : sProp 𝕄 :=
  wp frame (wpE (defs₀ (F := F)) 𝒱₀ (c : Thread nD τ) none) Set.univ p Q

/-- What device `c` still owes. -/
def owing (c : Dev nD) (O : CellTallies nD τ sig Unit) : sProp 𝕄 := iprop(∃ W, owes (c : Thread nD τ) O W)

/-! ## Loops -/

/-- A loop: each round takes its own part and steps what is kept between rounds. -/
theorem run_each {α : Type} (c : Dev nD) (f : α → Code F PUnit) (Pre Post : α → sProp 𝕄) (I : List α → sProp 𝕄) :
    ∀ (l : List α), (∀ a l', a ∈ l → (∀ x ∈ l', x ∈ l) → ∀ Q : PUnit → sProp 𝕄, iprop(Pre a ∗ I (a :: l')) ⊢ iprop((Post a ∗ I l' -∗ Q ⟨⟩) -∗ run c (f a) Q)) →
      ∀ Q : PUnit → sProp 𝕄, iprop(BI.bigSepL l Pre ∗ I l) ⊢ iprop((BI.bigSepL l Post ∗ I [] -∗ Q ⟨⟩) -∗ run c (each f l) Q)
  | [], _, Q => by
    unfold each run
    iintro ⟨-, HI⟩ HQ
    rw [Prog.pure_eq_ret, wp_ret]
    imodintro
    iapply HQ
    isplitr
    · rw [bigSepL_nil]; iempintro
    iexact HI
  | a :: l, h, Q => by
    unfold each run
    rw [wp_bind, bigSepL_cons', bigSepL_cons']
    iintro ⟨⟨Ha, Hl⟩, HI⟩ HQ
    iapply (h a l List.mem_cons_self (fun x hx => List.mem_cons_of_mem _ hx) _) $$ [Ha HI]
    · isplitl [Ha] <;> iassumption
    iintro ⟨Hb, HI⟩
    iapply (run_each c f Pre Post I l (fun b l' hb hl' => h b l' (List.mem_cons_of_mem _ hb) fun x hx => List.mem_cons_of_mem _ (hl' x hx)) Q) $$ [Hl HI]
    · isplitl [Hl] <;> iassumption
    iintro ⟨Hbs, HI⟩
    iapply HQ
    isplitl [Hb Hbs]
    · isplitl [Hb] <;> iassumption
    iexact HI

/-! ## Effects -/

section Effects

variable (K : Dev nD × Cell → ℕ)

/-- A greeting hands over the slots that the greeted device will write. -/
theorem step_greet (c : Dev nD) {o : Fin 32} (ho : o ≠ 0) (O : CellTallies nD τ sig Unit) (Q : PUnit → sProp 𝕄) :
    iprop(records m K ∗ dutyTok ER (barCell (peer c o)) 0 o ∗ slotsAt c (opp o) ∗ owing c (O + oweB c o))
      ⊢ iprop((owing c O -∗ Q ⟨⟩) -∗ run c (greet (F := F) c o) Q) := by
  unfold greet owing
  simp only [semSignalWord, Prog.lift]
  iintro ⟨#HK, Ht, Hs, %W, HO⟩ HQ
  iapply (Rounds.wp_signal 𝒱₀ ER (Rd m) (c : Thread nD τ) none (dst := (peer c o : Thread nD τ)) (κ := K (peer c o, none))
      (d := o) ((duties_k m (peer c o) none).symm ▸ mem_duty_bar ho) ((amount_bar m (peer c o) o).trans (by decide)) () O rfl)
    $$ [HO Ht Hs]
  · isplitr; · iapply (inv_at m K (peer c o) none); iexact HK
    isplitl [HO]; · iexact HO
    isplitl [Ht]; · iexact Ht
    isplitl [Hs]
    · iapply (Entails.of_eq (payload_k m (peer c o) none o).symm); unfold pay; dsimp only; rw [back_peer]; iexact Hs
    iapply (reached_at m K (peer c o) none); iexact HK
  iintro HO
  rw [wp_ret]; imodintro
  iapply HQ
  iexists W; iexact HO

/-- The barrier wait: every other device's slots for this device's copies. -/
theorem step_bar (c : Dev nD) (O : CellTallies nD τ sig Unit) (hO : Above 1 O) (Q : PUnit → sProp 𝕄) :
    iprop(records m K ∗ levAts L lv ∗ cred (tallyAt (barCell c) () 31) ∗ atPos ER (barCell c) 0 ∅ 0 ∗ owing c O)
      ⊢ iprop((BI.bigSepL offs (fun o => slotsAt (peer c o) o) ∗ atPos ER (barCell c) 1 ∅ 0 ∗ owing c O -∗ Q ⟨⟩)
          -∗ run c (semWaitWord barS 31#32) Q) := by
  unfold owing
  simp only [semWaitWord, Prog.lift]
  iintro ⟨#HK, #Hl, Hc, Ha, %W, HO⟩ HQ
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Ha]
  · isplitr; · iapply (inv_at m K c none); iexact HK
    isplitl [Hc]; · iexact Hc
    isplitl [HO]; · iexact HO
    isplitr; · iapply (mayWait_of c (.reg barS) (n := 1) (le_of_eq (lv_k c none)) hO); iexact Hl
    iexact Ha
  iintro ⟨HO, Ha, -, Hp⟩
  rw [wp_ret]; imodintro
  iapply HQ
  isplitl [Hp]; · iapply (Entails.of_eq (rest_bar m c)); iexact Hp
  isplitl [Ha]; · iexact Ha
  iexists _; iexact HO

/-- A wait for a chunk on one of the rows of semaphores. -/
theorem step_wait (c : Dev nD) (k : Fin 4) {o : Fin 32} (ho : o ≠ 0) {n : ℕ} (O : CellTallies nD τ sig Unit) (hn : lvOf (some (k, o)) ≤ n)
    (hO : Above n O) {s₁ s₂ : Shape} {e₁ e₂ : EltTy} {sp₁ sp₂ : Space} (M₁ : Memref sig .tc sp₁ s₁ e₁) (M₂ : Memref sig .tc sp₂ s₂ e₂) (hM : M₂.view.dmaCredit = N)
    (h₁ : M₁.view.WordExact) (h₂ : M₂.view.WordExact) (Q : PUnit → sProp 𝕄) :
    iprop(records m K ∗ levAts L lv ∗ cred (tallyAt (dcell c k o) () N) ∗ atPos ER (dcell c k o) 0 ∅ 0 ∗ owing c O)
      ⊢ iprop((pay m c (some (k, o)) o ∗ atPos ER (dcell c k o) 1 ∅ 0 ∗ owing c O -∗ Q ⟨⟩)
          -∗ run c (Prog.lift (.waitDma2 (dsem k o) M₁ M₂ h₁ h₂)) Q) := by
  unfold owing
  simp only [Prog.lift]
  iintro ⟨#HK, #Hl, Hc, Ha, %W, HO⟩ HQ
  iapply (Rounds.wp_wait_rest_token 𝒱₀ ER (Rd m) (c : Thread nD τ) none (κ := K (c, some (k, o)))
      (wpE_waitDma2_eq 𝒱₀ (c : Thread nD τ) none Set.univ) (Set.mem_univ _) () (O := O) (W := W) (R := 0) (m := 0) (T := ∅)
      ((Nat.zero_add _).trans (hM.trans (expect_d m c k ho).symm))) $$ [Hc HO Ha]
  · isplitr; · iapply (inv_at m K c (some (k, o))); iexact HK
    isplitl [Hc]; · rw [hM]; iexact Hc
    isplitl [HO]; · iexact HO
    isplitr; · iapply (mayWait_of c (.dma (dsem k o)) (n := n) (le_of_eq_of_le (lv_k c (some (k, o))) hn) hO); iexact Hl
    iexact Ha
  iintro ⟨HO, Ha, -, Hp⟩
  rw [wp_ret]; imodintro
  iapply HQ
  isplitl [Hp]; · iapply (Entails.of_eq (rest_d m c k ho)); iexact Hp
  isplitl [Ha]; · iexact Ha
  iexists _; iexact HO

/-- A chunk sent: it lands in the peer's slot. -/
theorem step_sendPart (c : Dev nD) {o : Fin 32} (ho : o ≠ 0) (O : CellTallies nD τ sig Unit) (Q : PUnit → sProp 𝕄) :
    iprop(records m K ∗ (dutyTok ER (dcell c 0 o) 0 o ∗ dutyTok ER (dcell (peer c o) 1 o) 0 o ∗ anyAt (peer c o) (slot rsM o))
        ∗ owns (c : Thread nD τ) (chunk stM (chOf o)) fullShare (chunkAt m c (chOf o)) ∗ owing c (O + oweR c o))
      ⊢ iprop((cred (tallyAt (dcell c 0 o) () N) ∗ owing c O -∗ Q ⟨⟩)
          -∗ run c (sendPart stM (Memref.isWhole_whole _) rsM (Memref.isWhole_whole _) cc0_scratch5 cc0_scratch6 c o) Q) := by
  unfold sendPart owing anyAt owns
  simp only [Prog.lift]
  iintro ⟨#HK, ⟨Ht1, Ht2, %fd, Hd⟩, ⟨%fs, %hfs, Hs⟩, %W, HO⟩ HQ
  iapply (Rounds.wp_send_pointsTo 𝒱₀ ER (Rd m) (c : Thread nD τ) none (κ₁ := K (c, some (0, o))) (κ₂ := K (peer c o, some (1, o)))
    (r₁ := 0) (r₂ := 0) (d₁ := o) (d₂ := o) (fd := fd) (fs := fs) (q := fullShare)
    (by rw [duties_k m c (some (0, o)), duty_d 0 ho]; exact Finset.mem_singleton_self _)
    (by rw [duties_k m (peer c o) (some (1, o)), duty_d 1 ho]; exact Finset.mem_singleton_self _)
    () () N rfl (amount_d m c 0 o o) (amount_d m (peer c o) 1 o o) O rfl (W := W)
    (by rw [payload_k m c (some (0, o))]; unfold pay anyAt; iintro H; iexists fs; iexact H)
    (by
      rw [payload_k m (peer c o) (some (1, o))]
      unfold pay owns
      dsimp only
      rw [back_peer, ← hfs]
      iintro H
      iexists ((slot rsM o).view.write (Elt F) fd ((chunk stM (chOf o)).view.read (Elt F) fs) Finset.univ)
      isplitr
      · ipureintro; exact View.read_write_univ _ _
      iexact H)) $$ [HO Ht1 Ht2 Hd Hs]
  · isplitr; · iapply (inv_at m K c (some (0, o))); iexact HK
    isplitr; · iapply (inv_at m K (peer c o) (some (1, o))); iexact HK
    isplitl [Hs]; · iexact Hs
    isplitl [Hd]; · iexact Hd
    isplitl [HO]; · iexact HO
    isplitl [Ht1]; · iexact Ht1
    isplitr; · iapply (reached_at m K c (some (0, o))); iexact HK
    isplitl [Ht2]; · iexact Ht2
    iapply (reached_at m K (peer c o) (some (1, o))); iexact HK
  iintro ⟨Hc, HO⟩
  rw [wp_ret]; imodintro
  iapply HQ
  isplitl [Hc]; · iexact Hc
  iexists W; iexact HO

/-- The reduced rows sent. -/
theorem step_sendRed (c : Dev nD) {o : Fin 32} (ho : o ≠ 0) (O : CellTallies nD τ sig Unit) (Q : PUnit → sProp 𝕄) :
    iprop(records m K ∗ (dutyTok ER (dcell c 2 o) 0 o ∗ dutyTok ER (dcell (peer c o) 3 o) 0 o ∗ anyAt (peer c o) (slot agM o) ∗ redLeaf m c o)
        ∗ owing c (O + oweA c o))
      ⊢ iprop((cred (tallyAt (dcell c 2 o) () N) ∗ owing c O -∗ Q ⟨⟩)
          -∗ run c (sendRed redM (Memref.isWhole_whole _) agM (Memref.isWhole_whole _) cc0_scratch7 cc0_scratch8 c o) Q) := by
  unfold sendRed owing anyAt redLeaf
  simp only [Prog.lift]
  iintro ⟨#HK, ⟨Ht1, Ht2, ⟨%fd, Hd⟩, Hs⟩, %W, HO⟩ HQ
  iapply (Rounds.wp_send_pointsTo 𝒱₀ ER (Rd m) (c : Thread nD τ) none (κ₁ := K (c, some (2, o))) (κ₂ := K (peer c o, some (3, o)))
    (r₁ := 0) (r₂ := 0) (d₁ := o) (d₂ := o) (fd := fd)
    (by rw [duties_k m c (some (2, o)), duty_d 2 ho]; exact Finset.mem_singleton_self _)
    (by rw [duties_k m (peer c o) (some (3, o)), duty_d 3 ho]; exact Finset.mem_singleton_self _)
    () () N rfl (amount_d m c 2 o o) (amount_d m (peer c o) 3 o o) O rfl (W := W)
    (by rw [payload_k m c (some (2, o))]; unfold pay redLeaf; exact BI.Entails.refl _)
    (by
      rw [payload_k m (peer c o) (some (3, o))]
      unfold pay owns
      dsimp only
      rw [back_peer]
      iintro H
      iexists ((slot agM o).view.write (Elt F) fd (redM.view.read (Elt F) (sentAt m c)) Finset.univ)
      isplitr
      · ipureintro; exact View.read_write_univ _ _
      iexact H)) $$ [HO Ht1 Ht2 Hd Hs]
  · isplitr; · iapply (inv_at m K c (some (2, o))); iexact HK
    isplitr; · iapply (inv_at m K (peer c o) (some (3, o))); iexact HK
    isplitl [Hs]; · iexact Hs
    isplitl [Hd]; · iexact Hd
    isplitl [HO]; · iexact HO
    isplitl [Ht1]; · iexact Ht1
    isplitr; · iapply (reached_at m K c (some (2, o))); iexact HK
    isplitl [Ht2]; · iexact Ht2
    iapply (reached_at m K (peer c o) (some (3, o))); iexact HK
  iintro ⟨Hc, HO⟩
  rw [wp_ret]; imodintro
  iapply HQ
  isplitl [Hc]; · iexact Hc
  iexists W; iexact HO

end Effects

end Cert.KernelIdeal.Hand

end
-- ==== Proof.Contents.lean ====
/- What the body's stores leave in the buffers. -/
module

public import proofs.«01_k».proof.Proof.Protocol
public import Idealize.ShloMosaic.Lib.Pipeline.Value

@[expose] public section

noncomputable section

namespace Cert.KernelIdeal.Hand

open Idealize.ShloMosaic Idealize.ShloMosaic.TcCoe
open Idealize.SL Idealize.SL.RA Idealize.SL.BI Idealize.SL.Sem
open Cert.KernelIdeal Cert.KernelIdeal.Gen

variable {F : FTy → Type} [FloatOps F]

variable (m : (ℓ : Loc nD τ sig) → Buf (Elt F) ℓ)

/-! ## A store into a buffer, element by element -/

theorem unit_idx_val {s : Shape} (off size : Fin s.rank → Nat) (inb) (x : (Rect.unit off size inb).shape.Idx) (a : Fin s.rank) :
    ((Rect.unit off size inb).idx x a).val = off a + (x a).val := by
  show off a + 1 * (x a).val = _
  omega

section Put

variable {sp : Space} {s : Shape} {e : EltTy} (M : Memref sig .tc sp s e) (r : Rect s) (f : M.view.ty.Contents (Elt F)) (w : r.shape.Idx → Elt F e)

/-- Inside its rectangle a store leaves what it stores, -/
theorem put_in (x : r.shape.Idx) (y : s.Idx) (h : r.idx x = y) : M.view.read (Elt F) ((M.access r).write (Elt F) f w Finset.univ) y = w x := by
  subst h
  exact View.read_write_of_mem (v := M.access r) f w (Finset.mem_univ x)

/-- and outside it what was there. -/
theorem put_out (y : s.Idx) (h : y ∉ r.set) : M.view.read (Elt F) ((M.access r).write (Elt F) f w Finset.univ) y = M.view.read (Elt F) f y := by
  rw [View.read_apply, View.read_apply]
  refine congrArg _ (View.write_of_not_mem (v := M.access r) f w Finset.univ fun hm => h ?_)
  obtain ⟨x, -, hx⟩ := Finset.mem_map.mp hm
  have e : r.idx x = y := M.view.emb.injective hx
  exact e ▸ (LoadRect.mem_set r.toLoadRect).2 fun a => ⟨(x a).val, (x a).isLt, rfl⟩

end Put

/-! ## The input and its wrapped rows -/

abbrev catR1 : Rect S640x1024 := Rect.unit (s := S640x1024) ![0, 0] S512x1024.size inb_S640x1024_S512x1024_0_0
abbrev catR2 : Rect S640x1024 := Rect.unit (s := S640x1024) ![512, 0] S128x1024.size inb_S640x1024_S128x1024_512_0

theorem pay2_apply (x : Vec F S1x512x1024 .f32) (a : Fin 512) (b : Fin 1024) : k0_pay2 x (ix2 a b) = x (ix3 (0 : Fin 1) a b) := by
  unfold k0_pay2 k0_pay1
  dsimp only
  rw [Idealize.ShloMosaic.shapeCast_self]
  exact ValueIdx.shapeCast_1ab_ab_apply _ _ _ _
theorem pay3_apply (x : Vec F S1x512x1024 .f32) (a : Fin 128) (b : Fin 1024) :
    k0_pay3 x (ix2 a b) = x (ix3 (0 : Fin 1) (⟨a.val, by omega⟩ : Fin 512) b) := by
  unfold k0_pay3 k0_pay1
  dsimp only
  rw [Idealize.ShloMosaic.shapeCast_self]
  refine (extractStridedSlice_apply _ _ _ _ (ix2 (⟨a.val, by omega⟩ : Fin 512) b) fun k => ?_).trans (ValueIdx.shapeCast_1ab_ab_apply _ _ _ _)
  fin_cases k <;> simp

theorem cat_put (f : Vec F S640x1024 .f32) (x : Vec F S1x512x1024 .f32) :
    (catM.access catR2).write (Elt F) ((catM.access catR1).write (Elt F) f (k0_pay2 x) Finset.univ) (k0_pay3 x) Finset.univ = catOf x := by
  funext y
  have h0 : (y 0).val < 640 := (y 0).isLt
  have h1 : (y 1).val < 1024 := (y 1).isLt
  refine (congrFun (View.read_whole (Val := Elt F) cc0_scratch0 _).symm y).trans ?_
  by_cases h : (y 0).val < 512
  · refine (put_out (F := F) catM catR2 _ _ y ?_).trans ((put_in (F := F) catM catR1 _ _ (ix2 (⟨(y 0).val, h⟩ : Fin 512) (⟨(y 1).val, h1⟩ : Fin 1024)) y ?_).trans ?_)
    · rw [Rect.mem_set_unit]; intro hh; have := (hh 0).1; simp at this; omega
    · funext k; refine Fin.ext ?_; fin_cases k <;> simp [Rect.unit]
    · rw [pay2_apply]; unfold catOf
      refine congrArg x ?_
      congr 1
      exact Fin.ext (by dsimp only; omega)
  · refine (put_in (F := F) catM catR2 _ _ (ix2 (⟨(y 0).val - 512, by omega⟩ : Fin 128) (⟨(y 1).val, h1⟩ : Fin 1024)) y ?_).trans ?_
    · funext k; refine Fin.ext ?_; fin_cases k <;> simp [Rect.unit]; omega
    · rw [pay3_apply]; unfold catOf
      refine congrArg x ?_
      congr 1
      exact Fin.ext (by dsimp only; omega)

/-! ## The staged chunks -/

theorem stage_put (c : Dev nD) (g : Fin 4) (j : Fin 8) (f : Vec F S4x8x16x1024 .bf16) :
    (chunk stM (inGroup g j)).view.read (Elt F) ((stM.access (stageR g)).write (Elt F) f (stagedAt m c g) Finset.univ) = chunkAt m c (inGroup g j) := by
  rw [chunk_read]
  funext y
  refine (put_in stM (stageR g) _ _ (ix4 (0 : Fin 1) j (y 0 : Fin 16) (y 1 : Fin 1024)) _ ?_).trans ?_
  · funext k; refine Fin.ext ?_
    fin_cases k
    · simp [Rect.unit, inGroup]; omega
    · simp [Rect.unit, inGroup]; omega
    · simp [Rect.unit]
    · simp [Rect.unit]
  · unfold chunkAt
    have e : (⟨(inGroup g j).val / 8, by omega⟩ : Fin 4) = g := Fin.ext (by unfold inGroup; dsimp only; omega)
    have e' : (⟨(inGroup g j).val % 8, by omega⟩ : Fin 8) = j := Fin.ext (by unfold inGroup; dsimp only; omega)
    rw [e, e']

/-! ## The device's own chunk -/

abbrev ownR : Rect S4x8x16x1024 := Rect.unit (s := S4x8x16x1024) ![3, 7, 0, 0] S1x1x16x1024.size inb_S4x8x16x1024_S1x1x16x1024_3_7_0_0
abbrev slot0R : Rect S32x16x1024 := Rect.unit (s := S32x16x1024) ![0, 0, 0] S1x16x1024.size inb_S32x16x1024_S1x16x1024_0_0_0

theorem own_put (c : Dev nD) (g : Vec F S4x8x16x1024 .bf16) (hg : (chunk stM 31).view.read (Elt F) g = chunkAt m c 31) (f : Vec F S32x16x1024 .bf16) :
    (slot rsM 0).view.read (Elt F) ((rsM.access slot0R).write (Elt F) f (k0_pay77 (stM.view.readAt (Elt F) ownR.toLoadRect g)) Finset.univ)
      = chunkAt m c 31 := by
  rw [slot_read, ← hg, chunk_read]
  funext y
  refine (put_in rsM slot0R _ _ (ix3 (0 : Fin 1) (y 0 : Fin 16) (y 1 : Fin 1024)) _ ?_).trans ?_
  · funext k; refine Fin.ext ?_
    fin_cases k <;> simp [Rect.unit]
  · unfold k0_pay77
    dsimp only
    refine (ValueIdx.shapeCast_ab_1ab_apply _ _ _ _ _).trans ?_
    refine (shapeCast_apply _ _ _ (ix4 (0 : Fin 1) (0 : Fin 1) (y 0 : Fin 16) (y 1 : Fin 1024)) ?_).trans ?_
    · rw [Shape.rowMajor_val_four, Shape.rowMajor_val_two]
      show ((0 * 1 + 0) * 16 + (y 0).val) * 1024 + (y 1).val = (y 0).val * 1024 + (y 1).val
      omega
    · show stM.view.read (Elt F) g (ownR.idx _) = _
      refine congrArg _ ?_
      funext k; refine Fin.ext ?_
      fin_cases k <;> simp [Rect.unit]

/-! ## The result -/

/-- The rows of the result that are not still to come hold their values. -/
def Done (c : Dev nD) (l : List (Fin 32)) (f : Vec F S1x512x1024 .f32) : Prop :=
  ∀ y : S1x512x1024.Idx, (∀ o ∈ l, (back c o).val ≠ (y 1).val / 16) → f y = outAt m c y

theorem done_nil (c : Dev nD) (f : Vec F S1x512x1024 .f32) (h : Done m c [] f) : f = outAt m c :=
  funext fun y => h y fun o ho => absurd ho List.not_mem_nil

abbrev outR (c : Dev nD) (o : Fin 32) : Rect S1x512x1024 := Rect.unit (s := S1x512x1024) (outOff c o) S1x16x1024.size (outOff_inb c o)
abbrev ownOutR (c : Dev nD) : Rect S1x512x1024 := Rect.unit (s := S1x512x1024) (k0_off2 c) S1x16x1024.size (k0_off2_inb c)

/-- Sixteen rows of the result: where an element of them lies, -/
theorem row_idx (off : Fin 3 → Nat) (inb) (d : Dev nD) (h : off = ![0, d.val * 16, 0]) (y : S1x512x1024.Idx) (hd : d.val = (y 1).val / 16) :
    (Rect.unit (s := S1x512x1024) off S1x16x1024.size inb).idx
      (ix3 (0 : Fin 1) (⟨(y 1).val % 16, Nat.mod_lt _ (by decide)⟩ : Fin 16) (y 2 : Fin 1024)) = y := by
  subst h
  funext k; refine Fin.ext ?_
  rw [unit_idx_val]
  have h0 : (y 0).val < 1 := (y 0).isLt
  fin_cases k
  · show 0 + 0 = (y 0).val
    omega
  · show d.val * 16 + (y 1).val % 16 = (y 1).val
    rw [hd]; omega
  · show 0 + (y 2).val = (y 2).val
    omega

/-- and which do not lie there. -/
theorem row_not_mem (off : Fin 3 → Nat) (inb) (d : Dev nD) (h : off = ![0, d.val * 16, 0]) (y : S1x512x1024.Idx) (hd : d.val ≠ (y 1).val / 16) :
    y ∉ (Rect.unit (s := S1x512x1024) off S1x16x1024.size inb).set := by
  subst h
  rw [Rect.mem_set_unit]
  intro hh
  have h1 : d.val * 16 ≤ (y 1).val ∧ (y 1).val < d.val * 16 + 16 := hh 1
  omega

/-- Rows that come from no peer are the device's own. -/
theorem own_row (c : Dev nD) (q : Nat) (h1 : q < 512) (hy : ∀ o ∈ offs, (back c o).val ≠ q / 16) : c.val = q / 16 := by
  have hc' : c.val < 32 := c.isLt
  by_contra hne
  have hlt : (c.val + 32 - q / 16) % 32 < 32 := Nat.mod_lt _ (by decide)
  have ho : (⟨(c.val + 32 - q / 16) % 32, hlt⟩ : Fin 32) ≠ 0 := fun h => by
    have h' : (c.val + 32 - q / 16) % 32 = 0 := congrArg Fin.val h
    omega
  refine hy _ (mem_offs ho) ?_
  show (c.val + 32 - (c.val + 32 - q / 16) % 32) % 32 = q / 16
  omega

theorem back_ne (c : Dev nD) (o : Fin 32) (ho : o ≠ 0) : back c o ≠ c := fun h => by
  have hv : (c.val + 32 - o.val) % 32 = c.val := congrArg Fin.val h
  have hc' : c.val < 32 := c.isLt
  have ho' : o.val ≠ 0 := fun h => ho (Fin.ext h)
  have := o.isLt
  omega

theorem own_out_put (c : Dev nD) (f : Vec F S1x512x1024 .f32) :
    Done m c offs ((oM.access (ownOutR c)).write (Elt F) f (k0_pay80 (sumAt m c)) Finset.univ) := by
  intro y hy
  have hc := own_row c (y 1).val (y 1).isLt hy
  refine (congrFun (View.read_whole (Val := Elt F) cc0_stg5_0 _).symm y).trans ?_
  refine (put_in (F := F) oM (ownOutR c) _ _ _ y (row_idx _ _ c (ownOff_eq c) y hc)).trans ?_
  unfold outAt
  dsimp only
  rw [if_pos (Fin.ext hc.symm)]

theorem slot_load (o : Fin 32) (g : Vec F S32x16x1024 .bf16) :
    agM.view.readAt (Elt F) (slotR o).toLoadRect g = fun z => (slot agM o).view.read (Elt F) g (ix2 (z 1 : Fin 16) (z 2 : Fin 1024)) := by
  rw [slot_read]
  funext z
  show agM.view.read (Elt F) g ((slotR o).idx z) = _
  refine congrArg _ ?_
  funext k; refine Fin.ext ?_
  rw [unit_idx_val]
  have hz : (z 0).val < 1 := (z 0).isLt
  fin_cases k
  · show o.val + (z 0).val = o.val
    omega
  · show 0 + (z 1).val = (z 1).val
    omega
  · show 0 + (z 2).val = (z 2).val
    omega

theorem out_put (c : Dev nD) (o : Fin 32) (ho : o ≠ 0) (l : List (Fin 32)) (f : Vec F S1x512x1024 .f32) (hf : Done m c (o :: l) f)
    (g : Vec F S32x16x1024 .bf16) (hg : (slot agM o).view.read (Elt F) g = sentAt m (back c o)) :
    Done m c l ((oM.access (outR c o)).write (Elt F) f (gathered (agM.view.readAt (Elt F) (slotR o).toLoadRect g)) Finset.univ) := by
  intro y hy
  refine (congrFun (View.read_whole (Val := Elt F) cc0_stg5_0 _).symm y).trans ?_
  by_cases hc : (back c o).val = (y 1).val / 16
  · refine (put_in (F := F) oM (outR c o) _ _ _ y (row_idx _ _ (back c o) (outOff_eq c o) y hc)).trans ?_
    rw [slot_load, hg]
    unfold outAt
    dsimp only
    have hs : (⟨(y 1).val / 16, Nat.div_lt_of_lt_mul (y 1).isLt⟩ : Fin 32) = back c o := Fin.ext hc.symm
    rw [hs, if_neg (back_ne c o ho)]
    rfl
  · refine (put_out (F := F) oM (outR c o) _ _ y (row_not_mem _ _ (back c o) (outOff_eq c o) y hc)).trans ?_
    refine (congrFun (View.read_whole (Val := Elt F) cc0_stg5_0 _) y).trans (hf y fun o' ho' => ?_)
    rcases List.mem_cons.mp ho' with rfl | h
    · exact hc
    · exact hy o' h

/-! ## The whole landing buffer -/

theorem parts_slot (c : Dev nD) (o : Fin 32) : (slot rsM o).view.read (Elt F) (partsAt m c) = chunkAt m (back c o) (chOf o) := by
  rw [slot_read]
  funext y
  show chunkAt m (back c o) (chOf o) (ix2 (y 0 : Fin 16) (y 1 : Fin 1024)) = _
  rw [← eq_ix2 y]

theorem back_zero (c : Dev nD) : back c 0 = c := Fin.ext (by
  show (c.val + 32 - 0) % 32 = c.val
  have hc' : c.val < 32 := c.isLt
  omega)

end Cert.KernelIdeal.Hand

end
-- ==== Proof.Local.lean ====
/- The body's pieces that move no data between devices: what each takes, and what it leaves. -/
module

public import proofs.«01_k».proof.Proof.Steps
public import proofs.«01_k».proof.Proof.Contents
public import Idealize.ShloMosaic.Lib.ViewIndex

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- A whole buffer of device `c`. -/
abbrev pts (c : Dev nD) (b : Ref sig .tc) (f : Buf (Elt F) ((c : Thread nD τ).loc b)) : sProp 𝕄 := ((c : Thread nD τ).loc b) ↦{fullShare} f

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The input -/

theorem step_copyIn (c : Dev nD) (x : Vec F S1x512x1024 .f32) (f : Vec F S640x1024 .f32) (Q : PUnit → sProp 𝕄) :
    iprop(pts c cc0_stg0_0 x ∗ pts c cc0_scratch0 f)
      ⊢ iprop((pts c cc0_stg0_0 x ∗ pts c cc0_scratch0 (catOf x) -∗ Q ⟨⟩) -∗ run c (copyIn xM catM) Q) := by
  unfold copyIn run
  simp only [Prog.lift, Prog.bind_op, Prog.bind_ret]
  iintro ⟨Hx, Hc⟩ HQ
  iapply (wp_load 𝒱₀ (c : Thread nD τ) none Set.univ (m := xM) (Finset.subset_univ _)) $$ Hx; iintro Hx
  rw [show xM.view.readAt (Elt F) (Rect.unit (s := S1x512x1024) ![0, 0, 0] S1x512x1024.size inb_S1x512x1024_S1x512x1024_0_0_0).toLoadRect x = x from
    Memref.readAt_unit_zero (Elt F) cc0_stg0_0 hz3 _ x]
  iapply (wp_load 𝒱₀ (c : Thread nD τ) none Set.univ (m := catM) (Finset.subset_univ _)) $$ Hc; iintro Hc
  iapply (wp_store 𝒱₀ (c : Thread nD τ) none Set.univ (m := catM) (r := catR1) (Mk := Finset.univ) (Finset.subset_univ _)) $$ Hc; iintro Hc
  iapply (wp_load 𝒱₀ (c : Thread nD τ) none Set.univ (m := catM) (Finset.subset_univ _)) $$ Hc; iintro Hc
  iapply (wp_store 𝒱₀ (c : Thread nD τ) none Set.univ (m := catM) (r := catR2) (Mk := Finset.univ) (Finset.subset_univ _)) $$ Hc; iintro Hc
  rw [wp_ret]; imodintro
  rw [cat_put]
  iapply HQ
  isplitl [Hx] <;> iassumption

/-! ## Staging -/

/-- A group's part of the staging buffer, at any contents. -/
def stageAny (c : Dev nD) (g : Fin 4) : sProp 𝕄 := iprop(∃ f : Vec F S4x8x16x1024 .bf16, stM.view.loc (c : Thread nD τ) ↦[stageS g]{fullShare} f)

/-- Chunk `i` of device `c`'s partial result, in the staging buffer. -/
def chunkHeld (c : Dev nD) (i : Fin 32) : sProp 𝕄 := owns (c : Thread nD τ) (chunk stM i) fullShare (chunkAt m c i)

/-- The chunk of a group that is not sent. -/
def lastOf (g : Fin 4) : List (Fin 32) := if g = 3 then [31] else []

theorem chunks_split : ∀ g : Fin 4, (List.map (inGroup g) [0, 1, 2, 3, 4, 5, 6, 7]) = (sent g).map (fun i => chOf (offOf i)) ++ lastOf g := by
  decide +kernel

theorem group_chunks (Φ : Fin 32 → sProp 𝕄) (g : Fin 4) : bigSep Finset.univ (fun j : Fin 8 => Φ (inGroup g j))
    = iprop(bigSepL (sent g) (fun i => Φ (chOf (offOf i))) ∗ bigSepL (lastOf g) Φ) := by
  rw [bigSep_eq_bigSepL_of_eq (S := Finset.univ) [0, 1, 2, 3, 4, 5, 6, 7] (by decide) (by decide), ← BI.bigSepL_map (inGroup g) _ Φ, chunks_split,
    bigSepL_append, BI.bigSepL_map]

theorem stage_chunk (c : Dev nD) (g : Fin 4) (f : Vec F S4x8x16x1024 .bf16) (j : Fin 8) :
    (stM.view.loc (c : Thread nD τ) ↦[chunkS (inGroup g j)]{fullShare} ((stM.access (stageR g)).write (Elt F) f (stagedAt m c g) Finset.univ) : sProp 𝕄)
      ⊢ chunkHeld m c (inGroup g j) := by
  unfold chunkHeld owns
  iintro H
  iexists ((stM.access (stageR g)).write (Elt F) f (stagedAt m c g) Finset.univ)
  isplitr
  · ipureintro; exact stage_put m c g j f
  iexact H

theorem stage_chunks (c : Dev nD) (g : Fin 4) (f : Vec F S4x8x16x1024 .bf16) :
    (stM.view.loc (c : Thread nD τ) ↦[stageS g]{fullShare} ((stM.access (stageR g)).write (Elt F) f (stagedAt m c g) Finset.univ) : sProp 𝕄)
      ⊢ bigSep Finset.univ (fun j : Fin 8 => chunkHeld m c (inGroup g j)) :=
  (Entails.of_eq (Ring.pointsTo_sub_blocks (ℓ := stM.view.loc (c : Thread nD τ)) (fun j => chunkS (inGroup g j))
    (fun j j' h => group_disjoint g j j' h) (stageS g) (group_cover g) _)).trans (bigSep_mono fun j _ => stage_chunk m c g f j)

theorem step_stage (c : Dev nD) (g : Fin 4) (Q : PUnit → sProp 𝕄) :
    iprop(pts c cc0_scratch0 (catOf (xAt m c)) ∗ stageAny c g)
      ⊢ iprop((pts c cc0_scratch0 (catOf (xAt m c)) ∗ bigSepL (sent g) (fun i => chunkHeld m c (chOf (offOf i))) ∗ bigSepL (lastOf g) (chunkHeld m c) -∗ Q ⟨⟩)
        -∗ run c (stageGroup catM stM (Memref.isWhole_whole _) (k0_pay4 (wqAt m c)) (k0_pay5 (woAt m c)) (k0_pay6 (kAt m c)) (k0_pay7 (vAt m c)) c g) Q) := by
  unfold stageGroup run stageAny
  simp only [Prog.lift, Prog.bind_op, Prog.bind_ret]
  iintro ⟨Hc, %f, Hs⟩ HQ
  iapply (wp_load 𝒱₀ (c : Thread nD τ) none Set.univ (m := catM) (Finset.subset_univ _)) $$ Hc; iintro Hc
  iapply (wp_load_rect 𝒱₀ (c : Thread nD τ) none Set.univ (m := stM) (r := stageR g) (S := stageS g) (Finset.Subset.refl _)) $$ Hs; iintro Hs
  iapply (wp_store 𝒱₀ (c : Thread nD τ) none Set.univ (m := stM) (r := stageR g) (Mk := Finset.univ) (S := stageS g) (Finset.Subset.refl _)) $$ Hs; iintro Hs
  rw [wp_ret]; imodintro
  iapply HQ
  isplitl [Hc]; · iexact Hc
  iapply (Entails.of_eq (group_chunks (chunkHeld m c) g))
  iapply (stage_chunks m c g f)
  iexact Hs

/-! ## The device's own chunk -/

/-- Slot `o` of a landing buffer. -/
def slotS (o : Fin 32) : Finset S32x16x1024.Idx := (slotR o).set

theorem chunk31 : chunkS 31 = (stM.access ownR).set := (View.set_reshape _ _).trans rfl
theorem slotS_rs (o : Fin 32) : (slot rsM o).view.set = slotS o := (View.set_reshape _ _).trans (View.set_slice_whole _ _)
theorem slotS_ag (o : Fin 32) : (slot agM o).view.set = slotS o := (View.set_reshape _ _).trans (View.set_slice_whole _ _)
theorem slotS_zero : (rsM.access slot0R).set = slotS 0 := View.set_slice_whole _ _
theorem slotS_access (o : Fin 32) : (agM.access (slotR o)).set = slotS o := View.set_slice_whole _ _

/-- A chunk and the slots, as the loads and the stores reach them. -/
theorem chunk31_held (c : Dev nD) (X : Vec F S16x1024 .bf16) : (owns (c : Thread nD τ) (chunk stM 31) fullShare X : sProp 𝕄)
    = iprop(∃ g : Vec F S4x8x16x1024 .bf16, ⌜(chunk stM 31).view.read (Elt F) g = X⌝ ∗ (stM.view.loc (c : Thread nD τ) ↦[chunkS 31]{fullShare} g)) := rfl
theorem slot0_any (c : Dev nD) : (anyAt c (slot rsM 0) : sProp 𝕄)
    = iprop(∃ f : Vec F S32x16x1024 .bf16, rsM.view.loc (c : Thread nD τ) ↦[slotS 0]{fullShare} f) :=
  congrArg (fun S : Finset S32x16x1024.Idx => (iprop(∃ f : Vec F S32x16x1024 .bf16, (c : Thread nD τ).loc cc0_scratch2 ↦[S]{fullShare} f) : sProp 𝕄)) (slotS_rs 0)
theorem slot0_held (c : Dev nD) (X : Vec F S16x1024 .bf16) : (owns (c : Thread nD τ) (slot rsM 0) fullShare X : sProp 𝕄)
    = iprop(∃ f : Vec F S32x16x1024 .bf16, ⌜(slot rsM 0).view.read (Elt F) f = X⌝ ∗ (rsM.view.loc (c : Thread nD τ) ↦[slotS 0]{fullShare} f)) :=
  congrArg (fun S : Finset S32x16x1024.Idx => (iprop(∃ f : Vec F S32x16x1024 .bf16, ⌜(slot rsM 0).view.read (Elt F) f = X⌝
    ∗ ((c : Thread nD τ).loc cc0_scratch2 ↦[S]{fullShare} f)) : sProp 𝕄)) (slotS_rs 0)
theorem slot_held (c : Dev nD) (o : Fin 32) (X : Vec F S16x1024 .bf16) : (owns (c : Thread nD τ) (slot agM o) fullShare X : sProp 𝕄)
    = iprop(∃ f : Vec F S32x16x1024 .bf16, ⌜(slot agM o).view.read (Elt F) f = X⌝ ∗ (agM.view.loc (c : Thread nD τ) ↦[slotS o]{fullShare} f)) :=
  congrArg (fun S : Finset S32x16x1024.Idx => (iprop(∃ f : Vec F S32x16x1024 .bf16, ⌜(slot agM o).view.read (Elt F) f = X⌝
    ∗ ((c : Thread nD τ).loc cc0_scratch4 ↦[S]{fullShare} f)) : sProp 𝕄)) (slotS_ag o)

theorem step_keepOwn (c : Dev nD) (Q : PUnit → sProp 𝕄) :
    iprop(chunkHeld m c 31 ∗ anyAt c (slot rsM 0))
      ⊢ iprop((chunkHeld m c 31 ∗ owns (c : Thread nD τ) (slot rsM 0) fullShare (chunkAt m (back c 0) (chOf 0)) -∗ Q ⟨⟩)
        -∗ run c (keepOwn stM rsM (Memref.isWhole_whole _)) Q) := by
  unfold keepOwn run chunkHeld
  rw [chunk31_held, slot0_held, slot0_any]
  simp only [Prog.lift, Prog.bind_op, Prog.bind_ret]
  iintro ⟨⟨%g, %hg, Hs⟩, %f, Hr⟩ HQ
  iapply (wp_load_rect 𝒱₀ (c : Thread nD τ) none Set.univ (m := stM) (r := ownR) (S := chunkS 31) (le_of_eq chunk31.symm)) $$ Hs; iintro Hs
  iapply (wp_load_rect 𝒱₀ (c : Thread nD τ) none Set.univ (m := rsM) (r := slot0R) (S := slotS 0) (le_of_eq slotS_zero)) $$ Hr; iintro Hr
  iapply (wp_store 𝒱₀ (c : Thread nD τ) none Set.univ (m := rsM) (r := slot0R) (Mk := Finset.univ) (S := slotS 0) (le_of_eq slotS_zero)) $$ Hr; iintro Hr
  rw [wp_ret]; imodintro
  iapply HQ
  isplitl [Hs]
  · iexists g
    isplitr; · ipureintro; exact hg
    iexact Hs
  iexists _
  isplitr
  swap; · iexact Hr
  ipureintro
  rw [back_zero]
  exact own_put m c g hg f

/-! ## The reduction -/

theorem univ_offs (Φ : Fin 32 → sProp 𝕄) : bigSep Finset.univ Φ = iprop(Φ 0 ∗ bigSepL offs Φ) := by
  rw [bigSep_univ_at Φ 0, bigSep_eq_bigSepL_of_eq offs offs_eq offs_nodup]

/-- A piece with given contents is that piece of any buffer that reads so. -/
theorem owns_of_read {s : Shape} {e : EltTy} (c : Dev nD) (M : Memref sig .tc .vmem s e) (X : s.Idx → Elt F e) (g : M.view.ty.Contents (Elt F))
    (hg : M.view.read (Elt F) g = X) : (owns (c : Thread nD τ) M fullShare X : sProp 𝕄) ⊢ M.view.loc (c : Thread nD τ) ↦[M.view.set]{fullShare} g := by
  unfold owns
  iintro ⟨%f, %hf, H⟩
  iapply (Entails.of_eq (pointsTo_congr (g := g) (fun i hi => by
    obtain ⟨y, -, rfl⟩ := Finset.mem_map.mp hi
    exact View.eq_of_read_eq (v := M.view) (congrFun (hf.trans hg.symm) y))))
  iexact H

theorem part_slot (c : Dev nD) (o : Fin 32) : (owns (c : Thread nD τ) (slot rsM o) fullShare (chunkAt m (back c o) (chOf o)) : sProp 𝕄)
    ⊢ (slot rsM o).view.loc (c : Thread nD τ) ↦[(slot rsM o).view.set]{fullShare} partsAt m c :=
  owns_of_read c (slot rsM o) _ (partsAt m c) (parts_slot m c o)

/-- The landing buffer, its slots joined. -/
theorem parts_join (c : Dev nD) : iprop(owns (c : Thread nD τ) (slot rsM 0) fullShare (chunkAt m (back c 0) (chOf 0)) ∗ bigSepL offs (fun o => pay m c (some (1, o)) o))
    ⊢ (pts c cc0_scratch2 (partsAt m c) : sProp 𝕄) := by
  refine (Entails.of_eq (univ_offs fun o => (owns (c : Thread nD τ) (slot rsM o) fullShare (chunkAt m (back c o) (chOf o)) : sProp 𝕄)).symm).trans ?_
  refine (bigSep_mono fun o _ => part_slot m c o).trans ?_
  exact Entails.of_eq (Ring.pointsTo_blocks (ℓ := (c : Thread nD τ).loc cc0_scratch2) (fun o => (slot rsM o).view.set)
    (fun o o' h => slot_disjoint rsM o o' h) ((slot_cover rsM).trans (View.set_whole _)) (partsAt m c)).symm

/-- The result so far, on device `c`: what is still to come is along `l`. -/
def outHeld (c : Dev nD) (l : List (Fin 32)) : sProp 𝕄 := iprop(∃ g, ⌜Done m c l g⌝ ∗ pts c cc0_stg5_0 g)

theorem red_leaves (c : Dev nD) : (pts c cc0_scratch3 (sentAt m c) : sProp 𝕄) = iprop(redLeaf m c 0 ∗ bigSepL offs (redLeaf m c)) := by
  rw [← univ_offs]
  refine (ShareLeaves.pointsTo_leaves (ℓ := (c : Thread nD τ).loc cc0_scratch3) Finset.univ (sentAt m c) 5 fullShare).trans ?_
  refine bigSep_congr fun i _ => ?_
  unfold redLeaf
  rw [View.set_whole]

theorem step_reduce (c : Dev nD) (f : Vec F S16x1024 .bf16) (g : Vec F S1x512x1024 .f32) (Q : PUnit → sProp 𝕄) :
    iprop(pts c cc0_scratch2 (partsAt m c) ∗ pts c cc0_scratch3 f ∗ pts c cc0_stg5_0 g)
      ⊢ iprop((pts c cc0_scratch2 (partsAt m c) ∗ (redLeaf m c 0 ∗ bigSepL offs (redLeaf m c)) ∗ outHeld m c offs -∗ Q ⟨⟩)
        -∗ run c (reduce oM rsM redM (Memref.isWhole_whole _) c) Q) := by
  unfold reduce run outHeld
  simp only [Prog.lift, Prog.bind_op, Prog.bind_ret]
  iintro ⟨Hp, Hr, Ho⟩ HQ
  iapply (wp_load 𝒱₀ (c : Thread nD τ) none Set.univ (m := rsM) (Finset.subset_univ _)) $$ Hp; iintro Hp
  rw [show rsM.view.readAt (Elt F) (Rect.unit (s := S32x16x1024) ![0, 0, 0] S32x16x1024.size inb_S32x16x1024_S32x16x1024_0_0_0).toLoadRect (partsAt m c) = partsAt m c from
    Memref.readAt_unit_zero (Elt F) cc0_scratch2 hz3 _ _]
  iapply (wp_load 𝒱₀ (c : Thread nD τ) none Set.univ (m := redM) (Finset.subset_univ _)) $$ Hr; iintro Hr
  iapply (wp_store 𝒱₀ (c : Thread nD τ) none Set.univ (m := redM)
    (r := Rect.unit (s := S16x1024) ![0, 0] S16x1024.size inb_S16x1024_S16x1024_0_0) (Mk := Finset.univ) (Finset.subset_univ _)) $$ Hr; iintro Hr
  iapply (wp_load 𝒱₀ (c : Thread nD τ) none Set.univ (m := oM) (Finset.subset_univ _)) $$ Ho; iintro Ho
  iapply (wp_store 𝒱₀ (c : Thread nD τ) none Set.univ (m := oM) (r := ownOutR c) (Mk := Finset.univ) (Finset.subset_univ _)) $$ Ho; iintro Ho
  rw [wp_ret]; imodintro
  iapply HQ
  isplitl [Hp]; · iexact Hp
  isplitl [Hr]
  · rw [show (redM.access (Rect.unit (s := S16x1024) ![0, 0] S16x1024.size inb_S16x1024_S16x1024_0_0) : View sig .tc _ _ _).write (Elt F) f (redSent (partsAt m c)) Finset.univ
      = sentAt m c from Memref.write_access_unit_zero_univ (Elt F) cc0_scratch3 hz2 _ f _]
    iapply (Entails.of_eq (red_leaves m c)); iexact Hr
  iexists _
  isplitr
  swap; · iexact Ho
  ipureintro
  exact own_out_put m c g

/-! ## The other devices' rows -/

theorem step_unpack (c : Dev nD) {o : Fin 32} (ho : o ≠ 0) (l : List (Fin 32)) (Q : PUnit → sProp 𝕄) :
    iprop(pay m c (some (3, o)) o ∗ outHeld m c (o :: l))
      ⊢ iprop((pay m c (some (3, o)) o ∗ outHeld m c l -∗ Q ⟨⟩) -∗ run c (unpack oM agM c o) Q) := by
  unfold unpack run outHeld pay
  dsimp only
  rw [slot_held]
  simp only [Prog.lift, Prog.bind_op, Prog.bind_ret]
  iintro ⟨⟨%f, %hf, Ha⟩, %g, %hg, Ho⟩ HQ
  iapply (wp_load_rect 𝒱₀ (c : Thread nD τ) none Set.univ (m := agM) (r := slotR o) (S := slotS o) (le_of_eq (slotS_access o))) $$ Ha; iintro Ha
  iapply (wp_load 𝒱₀ (c : Thread nD τ) none Set.univ (m := oM) (Finset.subset_univ _)) $$ Ho; iintro Ho
  iapply (wp_store 𝒱₀ (c : Thread nD τ) none Set.univ (m := oM) (r := outR c o) (Mk := Finset.univ) (Finset.subset_univ _)) $$ Ho; iintro Ho
  rw [wp_ret]; imodintro
  iapply HQ
  isplitl [Ha]
  · iexists f
    isplitr; · ipureintro; exact hf
    iexact Ha
  iexists _
  isplitr
  swap; · iexact Ho
  ipureintro
  exact out_put m c o ho l g hg f hf

end Cert.KernelIdeal.Hand

end
-- ==== Proof.Phases.lean ====
/- The body's loops: what each takes over all its rounds, and what it gives. -/
module

public import proofs.«01_k».proof.Proof.Local

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

theorem sep_swap (A B C D : sProp 𝕄) : iprop((A ∗ B) ∗ C ∗ D) ⊢ iprop((A ∗ C) ∗ B ∗ D) := by
  iintro ⟨⟨H1, H2⟩, H3, H4⟩
  isplitl [H1 H3]
  · isplitl [H1] <;> iassumption
  · isplitl [H2] <;> iassumption
theorem emp_two : (iprop(emp) : sProp 𝕄) ⊢ iprop(emp ∗ emp) := by
  iintro -
  isplitr <;> iempintro
theorem two_emp : (iprop(emp ∗ emp) : sProp 𝕄) ⊢ iprop(emp) := by
  iintro -
  iempintro

theorem bigSepL_sep {I : Type} (Φ Ψ : I → sProp 𝕄) : ∀ l : List I, bigSepL l (fun i => iprop(Φ i ∗ Ψ i)) = iprop(bigSepL l Φ ∗ bigSepL l Ψ)
  | [] => Entails.antisymm emp_two two_emp
  | i :: l => by
    rw [bigSepL_cons', bigSepL_cons', bigSepL_cons', bigSepL_sep Φ Ψ l]
    exact Entails.antisymm (sep_swap _ _ _ _) (sep_swap _ _ _ _)

variable (K : Dev nD × Cell → ℕ)

/-- What every step may use. -/
def world : sProp 𝕄 := iprop(records m K ∗ levAts L lv)
instance world_persistent : BI.Persistent (world (F := F) m K) := by unfold world; infer_instance

/-- The tokens of the duties a device pays: of its greetings, -/
abbrev tokB (c : Dev nD) (o : Fin 32) : sProp 𝕄 := dutyTok ER (barCell (peer c o)) 0 o
/-- of its copies of chunks, -/
abbrev tokP (c : Dev nD) (o : Fin 32) : sProp 𝕄 := iprop(dutyTok ER (dcell c 0 o) 0 o ∗ dutyTok ER (dcell (peer c o) 1 o) 0 o)
/-- and of its copies of reduced rows. -/
abbrev tokR (c : Dev nD) (o : Fin 32) : sProp 𝕄 := iprop(dutyTok ER (dcell c 2 o) 0 o ∗ dutyTok ER (dcell (peer c o) 3 o) 0 o)
/-- The credit a wait spends. -/
abbrev credit (c : Dev nD) (k : Fin 4) (o : Fin 32) : sProp 𝕄 := cred (tallyAt (dcell c k o) () N)
/-- Where a device is on a semaphore of its own. -/
abbrev posAt (c : Dev nD) (k : Fin 4) (r : ℕ) (o : Fin 32) : sProp 𝕄 := atPos ER (dcell c k o) r ∅ 0

theorem loop_greet (c : Dev nD) (O : CellTallies nD τ sig Unit) (Q : PUnit → sProp 𝕄) :
    iprop(records m K ∗ (bigSepL offs (tokB c) ∗ bigSepL offs (slotsAt c)) ∗ owing c (O + sumO (oweB c) offs))
      ⊢ iprop((owing c O -∗ Q ⟨⟩) -∗ run c (each (greet (F := F) c) offs) Q) := by
  rw [← bigSepL_opp fun o => slotsAt c o, ← bigSepL_sep]
  iintro ⟨#HK, Ht, HO⟩ HQ
  iapply (run_each c (greet (F := F) c) (fun o => iprop(tokB c o ∗ slotsAt c (opp o))) (fun _ => iprop(emp))
    (fun l => iprop(records m K ∗ owing c (O + sumO (oweB c) l))) offs (fun o l ho hl Q => by
      show iprop((tokB c o ∗ slotsAt c (opp o)) ∗ records m K ∗ owing c (O + (sumO (oweB c) l + oweB c o))) ⊢ _
      rw [← add_assoc]
      iintro ⟨⟨Ht, Hs⟩, #HK, HO⟩ HQ
      iapply (step_greet m K c (offs_ne o ho) (O + sumO (oweB c) l) Q) $$ [Ht Hs HO]
      · isplitr; · iexact HK
        isplitl [Ht]; · iexact Ht
        isplitl [Hs]; · iexact Hs
        iexact HO
      iintro HO
      iapply HQ
      isplitr; · iempintro
      isplitr; · iexact HK
      iexact HO) Q) $$ [Ht HO]
  · isplitl [Ht]; · iexact Ht
    isplitr; · iexact HK
    iexact HO
  iintro ⟨-, -, HO⟩
  iapply HQ
  iapply (Entails.of_eq (congrArg (owing (F := F) c) (show O + sumO (oweB c) [] = O from add_zero O)))
  iexact HO

/-- A loop of waits on a row of semaphores. -/
theorem loop_wait (c : Dev nD) (k : Fin 4) (O : CellTallies nD τ sig Unit) (f : Fin 32 → Code F PUnit)
    (hf : ∀ o, o ≠ 0 → ∀ Q : PUnit → sProp 𝕄, iprop(records m K ∗ levAts L lv ∗ credit c k o ∗ posAt c k 0 o ∗ owing c O)
      ⊢ iprop((pay m c (some (k, o)) o ∗ posAt c k 1 o ∗ owing c O -∗ Q ⟨⟩) -∗ run c (f o) Q)) (Q : PUnit → sProp 𝕄) :
    iprop(world m K ∗ bigSepL offs (credit c k) ∗ bigSepL offs (posAt c k 0) ∗ owing c O)
      ⊢ iprop((bigSepL offs (fun o => pay m c (some (k, o)) o) ∗ bigSepL offs (posAt c k 1) ∗ owing c O -∗ Q ⟨⟩) -∗ run c (each f offs) Q) := by
  iintro ⟨#HK, Hc, Hp, HO⟩ HQ
  iapply (run_each c f (fun o => iprop(credit c k o ∗ posAt c k 0 o)) (fun o => iprop(pay m c (some (k, o)) o ∗ posAt c k 1 o))
    (fun l => iprop(world m K ∗ owing c O)) offs (fun o l ho hl Q => by
      unfold world
      iintro ⟨⟨Hc, Hp⟩, ⟨#HK, #HL⟩, HO⟩ HQ
      iapply (hf o (offs_ne o ho) Q) $$ [Hc Hp HO]
      · isplitr; · iexact HK
        isplitr; · iexact HL
        isplitl [Hc]; · iexact Hc
        isplitl [Hp]; · iexact Hp
        iexact HO
      iintro ⟨Hy, Hp, HO⟩
      iapply HQ
      isplitl [Hy Hp]
      · isplitl [Hy] <;> iassumption
      isplitr
      · isplitr; · iexact HK
        iexact HL
      iexact HO) Q) $$ [Hc Hp HO]
  · isplitl [Hc Hp]
    · iapply (Entails.of_eq (bigSepL_sep (credit c k) (posAt c k 0) offs).symm)
      isplitl [Hc] <;> iassumption
    isplitr; · iexact HK
    iexact HO
  iintro ⟨Hy, -, HO⟩
  iapply HQ
  ihave Hy := (Entails.of_eq (bigSepL_sep (fun o => pay m c (some (k, o)) o) (posAt c k 1) offs)) $$ Hy
  icases Hy with ⟨Hy, Hp⟩
  isplitl [Hy]; · iexact Hy
  isplitl [Hp] <;> iassumption

theorem loop_recvPart (c : Dev nD) (Q : PUnit → sProp 𝕄) :
    iprop(world m K ∗ bigSepL offs (credit c 1) ∗ bigSepL offs (posAt c 1 0) ∗ owing c (sumO (oweA c) offs))
      ⊢ iprop((bigSepL offs (fun o => pay m c (some (1, o)) o) ∗ bigSepL offs (posAt c 1 1) ∗ owing c (sumO (oweA c) offs) -∗ Q ⟨⟩)
        -∗ run c (each (recvPart stM (Memref.isWhole_whole _) rsM (Memref.isWhole_whole _) cc0_scratch6) offs) Q) :=
  loop_wait m K c 1 (sumO (oweA c) offs) _ (fun o ho Q => by
    unfold recvPart
    exact step_wait m K c 1 ho (n := 2) (sumO (oweA c) offs) (le_of_le_of_eq (by decide : lvOf (some (1, 0)) ≤ 2) rfl) (above_A (by decide) c offs) (chunk stM (chOf o)) (slot rsM o) rfl _ _ Q) Q

theorem loop_recvRed (c : Dev nD) (Q : PUnit → sProp 𝕄) :
    iprop(world m K ∗ bigSepL offs (credit c 3) ∗ bigSepL offs (posAt c 3 0) ∗ owing c 0)
      ⊢ iprop((bigSepL offs (fun o => pay m c (some (3, o)) o) ∗ bigSepL offs (posAt c 3 1) ∗ owing c 0 -∗ Q ⟨⟩)
        -∗ run c (each (recvRed redM (Memref.isWhole_whole _) agM (Memref.isWhole_whole _) cc0_scratch8) offs) Q) :=
  loop_wait m K c 3 0 _ (fun o ho Q => by
    unfold recvRed
    exact step_wait m K c 3 ho (n := 3) 0 (le_of_le_of_eq (by decide : lvOf (some (3, 0)) ≤ 3) rfl) (above_zero _) redM (slot agM o) rfl _ _ Q) Q

theorem loop_donePart (c : Dev nD) (Q : PUnit → sProp 𝕄) :
    iprop(world m K ∗ bigSepL offs (credit c 0) ∗ bigSepL offs (posAt c 0 0) ∗ owing c 0)
      ⊢ iprop((bigSepL offs (fun o => pay m c (some (0, o)) o) ∗ bigSepL offs (posAt c 0 1) ∗ owing c 0 -∗ Q ⟨⟩)
        -∗ run c (each (donePart stM (Memref.isWhole_whole _) rsM (Memref.isWhole_whole _) cc0_scratch5) offs) Q) :=
  loop_wait m K c 0 0 _ (fun o ho Q => by
    unfold donePart
    exact step_wait m K c 0 ho (n := 3) 0 (le_of_le_of_eq (by decide : lvOf (some (0, 0)) ≤ 3) rfl) (above_zero _) (slot rsM o) (chunk stM (chOf o)) rfl _ _ Q) Q

theorem loop_doneRed (c : Dev nD) (Q : PUnit → sProp 𝕄) :
    iprop(world m K ∗ bigSepL offs (credit c 2) ∗ bigSepL offs (posAt c 2 0) ∗ owing c 0)
      ⊢ iprop((bigSepL offs (fun o => pay m c (some (2, o)) o) ∗ bigSepL offs (posAt c 2 1) ∗ owing c 0 -∗ Q ⟨⟩)
        -∗ run c (each (doneRed redM (Memref.isWhole_whole _) agM (Memref.isWhole_whole _) cc0_scratch7) offs) Q) :=
  loop_wait m K c 2 0 _ (fun o ho Q => by
    unfold doneRed
    exact step_wait m K c 2 ho (n := 3) 0 (le_of_le_of_eq (by decide : lvOf (some (2, 0)) ≤ 3) rfl) (above_zero _) (slot agM o) redM rfl _ _ Q) Q

/-! ## The copies -/

/-- What the copy of a chunk to offset `o` takes besides the chunk. -/
abbrev sendArg (c : Dev nD) (o : Fin 32) : sProp 𝕄 := iprop(tokP c o ∗ anyAt (peer c o) (slot rsM o))

theorem loop_sendPart (c : Dev nD) (O : CellTallies nD τ sig Unit) (g : Fin 4) (rest : List (Fin 32)) (Q : PUnit → sProp 𝕄) :
    iprop(records m K ∗ bigSepL (sent g) (fun i => sendArg c (offOf i)) ∗ bigSepL (sent g) (fun i => chunkHeld m c (chOf (offOf i)))
        ∗ owing c (O + sumO (oweR c) ((sent g).map offOf ++ rest)))
      ⊢ iprop((bigSepL (sent g) (fun i => credit c 0 (offOf i)) ∗ owing c (O + sumO (oweR c) rest) -∗ Q ⟨⟩)
        -∗ run c (each (fun i => sendPart stM (Memref.isWhole_whole _) rsM (Memref.isWhole_whole _) cc0_scratch5 cc0_scratch6 c (offOf i)) (sent g)) Q) := by
  iintro ⟨#HK, Ha, Hh, HO⟩ HQ
  iapply (run_each c (fun i => sendPart (F := F) stM (Memref.isWhole_whole _) rsM (Memref.isWhole_whole _) cc0_scratch5 cc0_scratch6 c (offOf i))
    (fun i : Fin 31 => iprop(sendArg c (offOf i) ∗ chunkHeld m c (chOf (offOf i)))) (fun i => credit c 0 (offOf i))
    (fun l => iprop(records m K ∗ owing c (O + sumO (oweR c) (l.map offOf ++ rest)))) (sent g) (fun i l _ hl Q => by
      show iprop((sendArg c (offOf i) ∗ chunkHeld m c (chOf (offOf i)))
        ∗ records m K ∗ owing c (O + (sumO (oweR c) (l.map offOf ++ rest) + oweR c (offOf i)))) ⊢ _
      rw [← add_assoc]
      unfold chunkHeld
      iintro ⟨⟨⟨⟨H1, H2⟩, H3⟩, Hh⟩, #HK, HO⟩ HQ
      iapply (step_sendPart m K c (Fin.succ_ne_zero i) (O + sumO (oweR c) (l.map offOf ++ rest)) Q) $$ [H1 H2 H3 Hh HO]
      · isplitr; · iexact HK
        isplitl [H1 H2 H3]
        · isplitl [H1]; · iexact H1
          isplitl [H2] <;> iassumption
        isplitl [Hh]; · iexact Hh
        iexact HO
      iintro ⟨Hc, HO⟩
      iapply HQ
      isplitl [Hc]; · iexact Hc
      isplitr; · iexact HK
      iexact HO) Q) $$ [Ha Hh HO]
  · isplitl [Ha Hh]
    · iapply (Entails.of_eq (bigSepL_sep (fun i : Fin 31 => sendArg (F := F) c (offOf i)) (fun i => chunkHeld m c (chOf (offOf i))) (sent g)).symm)
      isplitl [Ha] <;> iassumption
    isplitr; · iexact HK
    iexact HO
  iintro ⟨Hc, -, HO⟩
  iapply HQ
  isplitl [Hc]; · iexact Hc
  iexact HO

theorem sent_offs : (([0, 1, 2, 3] : List (Fin 4)).flatMap fun g => (sent g).map offOf) = offs := by decide
theorem last_all : (([0, 1, 2, 3] : List (Fin 4)).flatMap lastOf) = [31] := by decide

theorem bigSepL_flatMap {I J : Type} (f : I → List J) (Φ : J → sProp 𝕄) : ∀ l : List I, bigSepL (l.flatMap f) Φ = bigSepL l fun i => bigSepL (f i) Φ
  | [] => rfl
  | i :: l => by rw [List.flatMap_cons, bigSepL_append, bigSepL_cons', bigSepL_flatMap f Φ l]

/-- By offsets is by groups. -/
theorem by_groups (Φ : Fin 32 → sProp 𝕄) : bigSepL offs Φ = bigSepL ([0, 1, 2, 3] : List (Fin 4)) fun g => bigSepL (sent g) fun i => Φ (offOf i) := by
  rw [← sent_offs, bigSepL_flatMap]
  congr 1
  funext g
  exact bigSepL_map offOf (sent g) Φ
theorem by_last (Φ : Fin 32 → sProp 𝕄) : bigSepL ([0, 1, 2, 3] : List (Fin 4)) (fun g => bigSepL (lastOf g) Φ) = Φ 31 := by
  rw [← bigSepL_flatMap, last_all]
  rfl

/-- The four groups: staged and sent. -/
theorem loop_groups (c : Dev nD) (O : CellTallies nD τ sig Unit) (Q : PUnit → sProp 𝕄) :
    iprop(records m K ∗ bigSepL offs (sendArg c) ∗ pts c cc0_scratch0 (catOf (xAt m c)) ∗ bigSepL ([0, 1, 2, 3] : List (Fin 4)) (stageAny c)
        ∗ owing c (O + sumO (oweR c) offs))
      ⊢ iprop((bigSepL offs (credit c 0) ∗ pts c cc0_scratch0 (catOf (xAt m c)) ∗ chunkHeld m c 31 ∗ owing c O -∗ Q ⟨⟩)
        -∗ run c (each (group catM stM (Memref.isWhole_whole _) rsM (Memref.isWhole_whole _) cc0_scratch5 cc0_scratch6
            (k0_pay4 (wqAt m c)) (k0_pay5 (woAt m c)) (k0_pay6 (kAt m c)) (k0_pay7 (vAt m c)) c) [0, 1, 2, 3]) Q) := by
  iintro ⟨#HK, Ha, Hx, Hs, HO⟩ HQ
  ihave Ha := (Entails.of_eq (by_groups (sendArg (F := F) c))) $$ Ha
  iapply (run_each c (group (F := F) catM stM (Memref.isWhole_whole _) rsM (Memref.isWhole_whole _) cc0_scratch5 cc0_scratch6
      (k0_pay4 (wqAt m c)) (k0_pay5 (woAt m c)) (k0_pay6 (kAt m c)) (k0_pay7 (vAt m c)) c)
    (fun g => iprop((bigSepL (sent g) fun i => sendArg c (offOf i)) ∗ stageAny c g))
    (fun g => iprop((bigSepL (sent g) fun i => credit c 0 (offOf i)) ∗ bigSepL (lastOf g) (chunkHeld m c)))
    (fun l => iprop(records m K ∗ pts c cc0_scratch0 (catOf (xAt m c)) ∗ owing c (O + sumO (oweR c) (l.flatMap fun g => (sent g).map offOf))))
    [0, 1, 2, 3] (fun g l _ hl Q => by
      rw [List.flatMap_cons]
      unfold group run
      rw [wp_bind]
      iintro ⟨⟨Ha, Hs⟩, #HK, Hx, HO⟩ HQ
      iapply (step_stage m c g _) $$ [Hx Hs]
      · isplitl [Hx] <;> iassumption
      iintro ⟨Hx, Hh, Hl⟩
      iapply (loop_sendPart m K c O g (l.flatMap fun g => (sent g).map offOf) Q) $$ [Ha Hh HO]
      · isplitr; · iexact HK
        isplitl [Ha]; · iexact Ha
        isplitl [Hh]; · iexact Hh
        iexact HO
      iintro ⟨Hc, HO⟩
      iapply HQ
      isplitl [Hc Hl]
      · isplitl [Hc] <;> iassumption
      isplitr; · iexact HK
      isplitl [Hx] <;> iassumption) Q) $$ [Ha Hs Hx HO]
  · isplitl [Ha Hs]
    · iapply (Entails.of_eq (bigSepL_sep (fun g => bigSepL (sent g) fun i => sendArg (F := F) c (offOf i)) (stageAny c) [0, 1, 2, 3]).symm)
      isplitl [Ha] <;> iassumption
    isplitr; · iexact HK
    isplitl [Hx]; · iexact Hx
    iapply (Entails.of_eq (congrArg (fun l => owing (F := F) c (O + sumO (oweR c) l)) sent_offs.symm)); iexact HO
  iintro ⟨Hc, -, Hx, HO⟩
  iapply HQ
  ihave Hc := (Entails.of_eq (bigSepL_sep (fun g => bigSepL (sent g) fun i => credit (F := F) c 0 (offOf i)) (fun g => bigSepL (lastOf g) (chunkHeld m c)) [0, 1, 2, 3])) $$ Hc
  icases Hc with ⟨Hc, Hl⟩
  isplitl [Hc]; · iapply (Entails.of_eq (by_groups (credit (F := F) c 0)).symm); iexact Hc
  isplitl [Hx]; · iexact Hx
  isplitl [Hl]; · iapply (Entails.of_eq (by_last (chunkHeld m c))); iexact Hl
  iapply (Entails.of_eq (congrArg (owing (F := F) c) (show O + sumO (oweR c) [] = O from add_zero O)))
  iexact HO

theorem loop_sendRed (c : Dev nD) (Q : PUnit → sProp 𝕄) :
    iprop(records m K ∗ bigSepL offs (fun o => iprop(tokR c o ∗ anyAt (peer c o) (slot agM o))) ∗ bigSepL offs (redLeaf m c)
        ∗ owing c (sumO (oweA c) offs))
      ⊢ iprop((bigSepL offs (credit c 2) ∗ owing c 0 -∗ Q ⟨⟩)
        -∗ run c (each (sendRed redM (Memref.isWhole_whole _) agM (Memref.isWhole_whole _) cc0_scratch7 cc0_scratch8 c) offs) Q) := by
  iintro ⟨#HK, Ha, Hh, HO⟩ HQ
  iapply (run_each c (sendRed (F := F) redM (Memref.isWhole_whole _) agM (Memref.isWhole_whole _) cc0_scratch7 cc0_scratch8 c)
    (fun o => iprop((tokR c o ∗ anyAt (peer c o) (slot agM o)) ∗ redLeaf m c o)) (credit c 2)
    (fun l => iprop(records m K ∗ owing c (sumO (oweA c) l))) offs (fun o l ho hl Q => by
      show iprop(((tokR c o ∗ anyAt (peer c o) (slot agM o)) ∗ redLeaf m c o) ∗ records m K ∗ owing c (sumO (oweA c) l + oweA c o)) ⊢ _
      iintro ⟨⟨⟨⟨H1, H2⟩, H3⟩, Hh⟩, #HK, HO⟩ HQ
      iapply (step_sendRed m K c (offs_ne o ho) (sumO (oweA c) l) Q) $$ [H1 H2 H3 Hh HO]
      · isplitr; · iexact HK
        isplitl [H1 H2 H3 Hh]
        · isplitl [H1]; · iexact H1
          isplitl [H2]; · iexact H2
          isplitl [H3] <;> iassumption
        iexact HO
      iintro ⟨Hc, HO⟩
      iapply HQ
      isplitl [Hc]; · iexact Hc
      isplitr; · iexact HK
      iexact HO) Q) $$ [Ha Hh HO]
  · isplitl [Ha Hh]
    · iapply (Entails.of_eq (bigSepL_sep (fun o => iprop(tokR (F := F) c o ∗ anyAt (peer c o) (slot agM o))) (redLeaf m c) offs).symm)
      isplitl [Ha] <;> iassumption
    isplitr; · iexact HK
    iexact HO
  iintro ⟨Hc, -, HO⟩
  iapply HQ
  isplitl [Hc]; · iexact Hc
  iexact HO

theorem loop_unpack (c : Dev nD) (Q : PUnit → sProp 𝕄) :
    iprop(bigSepL offs (fun o => pay m c (some (3, o)) o) ∗ outHeld m c offs)
      ⊢ iprop((bigSepL offs (fun o => pay m c (some (3, o)) o) ∗ outHeld m c [] -∗ Q ⟨⟩) -∗ run c (each (unpack oM agM c) offs) Q) :=
  run_each c (unpack oM agM c) (fun o => pay m c (some (3, o)) o) (fun o => pay m c (some (3, o)) o) (outHeld m c) offs
    (fun o l ho hl Q => step_unpack m c (offs_ne o ho) l Q) Q

end Cert.KernelIdeal.Hand

end
-- ==== Proof.Sound.lean ====
/- The body on one device: from what the launch gives it to the buffers at their final contents and every semaphore at zero. -/
module

public import proofs.«01_k».proof.Proof.Phases
public import proofs.«01_k».proof.Proof.Gen.KernelIdeal.Frame

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers in pieces -/

theorem stage_split (c : Dev nD) (f : Vec F S4x8x16x1024 .bf16) : (pts c cc0_scratch1 f : sProp 𝕄) ⊢ bigSepL ([0, 1, 2, 3] : List (Fin 4)) (stageAny c) := by
  refine (Entails.of_eq (Ring.pointsTo_blocks (ℓ := (c : Thread nD τ).loc cc0_scratch1) stageS stage_disjoint stage_cover f)).trans ?_
  rw [bigSep_eq_bigSepL_of_eq (S := Finset.univ) ([0, 1, 2, 3] : List (Fin 4)) (by decide) (by decide)]
  refine bigSepL_mono fun g _ => ?_
  unfold stageAny
  exact exists_intro (Φ := fun f : Vec F S4x8x16x1024 .bf16 => (stM.view.loc (c : Thread nD τ) ↦[stageS g]{fullShare} f : sProp 𝕄)) f

theorem slots_split (c : Dev nD) (f g : Vec F S32x16x1024 .bf16) : (iprop(pts c cc0_scratch2 f ∗ pts c cc0_scratch4 g) : sProp 𝕄)
    ⊢ iprop(anyAt c (slot rsM 0) ∗ anyAt c (slot agM 0) ∗ bigSepL offs (slotsAt c)) := by
  have h2 : (pts c cc0_scratch2 f : sProp 𝕄) ⊢ iprop(anyAt c (slot rsM 0) ∗ bigSepL offs fun o => anyAt c (slot rsM o)) := by
    refine (Entails.of_eq (Ring.pointsTo_blocks (ℓ := (c : Thread nD τ).loc cc0_scratch2) (fun o => (slot rsM o).view.set)
      (fun o o' h => slot_disjoint rsM o o' h) ((slot_cover rsM).trans (View.set_whole _)) f)).trans ?_
    refine BI.Entails.trans (bigSep_mono (Ψ := fun o => anyAt (F := F) c (slot rsM o)) fun o _ => ?_) (Entails.of_eq (univ_offs _))
    unfold anyAt
    exact exists_intro (Φ := fun f : (slot rsM o).view.ty.Contents (Elt F) => ((slot rsM o).view.loc (c : Thread nD τ) ↦[(slot rsM o).view.set]{fullShare} f : sProp 𝕄)) f
  have h4 : (pts c cc0_scratch4 g : sProp 𝕄) ⊢ iprop(anyAt c (slot agM 0) ∗ bigSepL offs fun o => anyAt c (slot agM o)) := by
    refine (Entails.of_eq (Ring.pointsTo_blocks (ℓ := (c : Thread nD τ).loc cc0_scratch4) (fun o => (slot agM o).view.set)
      (fun o o' h => slot_disjoint agM o o' h) ((slot_cover agM).trans (View.set_whole _)) g)).trans ?_
    refine BI.Entails.trans (bigSep_mono (Ψ := fun o => anyAt (F := F) c (slot agM o)) fun o _ => ?_) (Entails.of_eq (univ_offs _))
    unfold anyAt
    exact exists_intro (Φ := fun f : (slot agM o).view.ty.Contents (Elt F) => ((slot agM o).view.loc (c : Thread nD τ) ↦[(slot agM o).view.set]{fullShare} f : sProp 𝕄)) g
  unfold slotsAt
  rw [bigSepL_sep]
  iintro ⟨H2, H4⟩
  ihave H2 := h2 $$ H2
  ihave H4 := h4 $$ H4
  icases H2 with ⟨A, B⟩
  icases H4 with ⟨C, D⟩
  isplitl [A]; · iexact A
  isplitl [C]; · iexact C
  isplitl [B] <;> iassumption

theorem owns_any {s : Shape} {e : EltTy} (c : Dev nD) (M : Memref sig .tc .vmem s e) (X : s.Idx → Elt F e) :
    (owns (c : Thread nD τ) M fullShare X : sProp 𝕄) ⊢ anyAt c M := by
  unfold owns anyAt
  iintro ⟨%f, -, H⟩
  iexists f; iexact H

/-- The second landing buffer whole again, -/
theorem ag_join (c : Dev nD) : (iprop(anyAt c (slot agM 0) ∗ bigSepL offs fun o => pay m c (some (3, o)) o) : sProp 𝕄) ⊢ iprop(∃ f, pts c cc0_scratch4 f) := by
  have h : (bigSepL offs fun o => pay m c (some (3, o)) o) ⊢ (bigSepL offs fun o => anyAt (F := F) c (slot agM o) : sProp 𝕄) :=
    bigSepL_mono fun o _ => owns_any c (slot agM o) _
  refine (sep_mono_right h).trans ?_
  rw [← univ_offs fun o => anyAt (F := F) c (slot agM o)]
  exact Ring.pointsTo_blocks_join_exists (ℓ := (c : Thread nD τ).loc cc0_scratch4) (fun o => (slot agM o).view.set)
    (fun o o' h => slot_disjoint agM o o' h) ((slot_cover agM).trans (View.set_whole _)) (fun _ => default)

def chE : Fin 32 ≃ Fin 32 := ⟨chOf, fun i => i + 1, by decide, by decide⟩

/-- and the staging buffer, -/
theorem stage_join (c : Dev nD) : (iprop(chunkHeld m c 31 ∗ bigSepL offs fun o => pay m c (some (0, o)) o) : sProp 𝕄) ⊢ iprop(∃ f, pts c cc0_scratch1 f) := by
  have h : (chunkHeld m c 31 : sProp 𝕄) ⊢ anyAt c (chunk stM (chOf 0)) := owns_any c (chunk stM 31) _
  refine (sep_mono_left h).trans ?_
  refine (Entails.of_eq (univ_offs fun o => anyAt (F := F) c (chunk stM (chOf o))).symm).trans ?_
  refine (Entails.of_eq (bigSep_univ_equiv chE fun i => anyAt (F := F) c (chunk stM i)).symm).trans ?_
  exact Ring.pointsTo_blocks_join_exists (ℓ := (c : Thread nD τ).loc cc0_scratch1) chunkS chunk_disjoint chunk_cover (fun _ => default)

/-- and the reduced rows. -/
theorem red_join (c : Dev nD) : (iprop(redLeaf m c 0 ∗ bigSepL offs fun o => pay m c (some (2, o)) o) : sProp 𝕄) ⊢ iprop(∃ f, pts c cc0_scratch3 f) :=
  (Entails.of_eq (red_leaves m c).symm).trans (exists_intro (Φ := fun f : Vec F S16x1024 .bf16 => (pts c cc0_scratch3 f : sProp 𝕄)) (sentAt m c))

/-! ## The semaphores -/

/-- Every semaphore: the barrier, the four of the device's own number, and the rows. -/
theorem cells_split (Φ : Cell → sProp 𝕄) : bigSep Finset.univ Φ
    = iprop(Φ none ∗ (Φ (some (0, 0)) ∗ bigSepL offs fun o => Φ (some (0, o))) ∗ (Φ (some (1, 0)) ∗ bigSepL offs fun o => Φ (some (1, o)))
      ∗ (Φ (some (2, 0)) ∗ bigSepL offs fun o => Φ (some (2, o))) ∗ Φ (some (3, 0)) ∗ bigSepL offs fun o => Φ (some (3, o))) := by
  rw [bigSep_univ_at Φ none]
  have h : (Finset.univ.erase none : Finset Cell) = Finset.univ.map Function.Embedding.some := by
    ext x; cases x <;> simp
  rw [h, bigSep_map]
  show iprop(Φ none ∗ bigSep Finset.univ fun p : Fin 4 × Fin 32 => Φ (some p)) = _
  rw [bigSep_univ_prod, bigSep_eq_bigSepL_of_eq (S := Finset.univ) ([0, 1, 2, 3] : List (Fin 4)) (by decide) (by decide)]
  show iprop(Φ none ∗ (bigSep Finset.univ fun o => Φ (some (0, o))) ∗ (bigSep Finset.univ fun o => Φ (some (1, o)))
    ∗ (bigSep Finset.univ fun o => Φ (some (2, o))) ∗ bigSep Finset.univ fun o => Φ (some (3, o))) = _
  rw [univ_offs fun o => Φ (some (0, o)), univ_offs fun o => Φ (some (1, o)), univ_offs fun o => Φ (some (2, o)), univ_offs fun o => Φ (some (3, o))]

/-- How far each semaphore has gone at the end. -/
def lastR : Cell → ℕ
  | none => 1
  | some (_, o) => if o = 0 then 0 else 1

theorem duties_last (c : Dev nD) : ∀ k : Cell, ∀ r, lastR k ≤ r → (Rd (F := F) m).duties (kcell c k) r = ∅
  | none => duties_later m _
  | some (k, o) => by
    by_cases h : o = 0
    · subst h; exact fun r _ => duties_zero m c k r (Nat.zero_le _)
    · exact fun r hr => duties_later m _ r (by simp only [lastR, if_neg h] at hr; exact hr)

theorem pos_last (c : Dev nD) (k : Fin 4) : (bigSepL offs (posAt c k 1) : sProp 𝕄) ⊢ bigSepL offs fun o => atPos ER (kcell c (some (k, o))) (lastR (some (k, o))) ∅ 0 :=
  bigSepL_mono fun o ho => by
    rw [show lastR (some (k, o)) = 1 from if_neg (offs_ne o ho)]

/-- Every semaphore of the device, at zero. -/
def zeros (c : Dev nD) : sProp 𝕄 := bigSep Finset.univ fun k : Cell => semVal (kcell c k) 0

variable (K : Dev nD × Cell → ℕ)

/-- Every position at the end. -/
def lastPos (c : Dev nD) : sProp 𝕄 := bigSep Finset.univ fun k : Cell => atPos ER (kcell c k) (lastR k) ∅ 0

theorem pos_all (c : Dev nD) :
    (iprop(atPos ER (barCell c) 1 ∅ 0 ∗ (posAt c 0 0 0 ∗ bigSepL offs (posAt c 0 1)) ∗ (posAt c 1 0 0 ∗ bigSepL offs (posAt c 1 1))
      ∗ (posAt c 2 0 0 ∗ bigSepL offs (posAt c 2 1)) ∗ posAt c 3 0 0 ∗ bigSepL offs (posAt c 3 1)) : sProp 𝕄) ⊢ lastPos c := by
  unfold lastPos
  rw [cells_split fun k : Cell => (atPos ER (kcell c k) (lastR k) ∅ 0 : sProp 𝕄)]
  iintro ⟨H, ⟨A0, B0⟩, ⟨A1, B1⟩, ⟨A2, B2⟩, A3, B3⟩
  isplitl [H]; · iexact H
  isplitl [A0 B0]
  · isplitl [A0]; · iexact A0
    iapply (pos_last c 0); iexact B0
  isplitl [A1 B1]
  · isplitl [A1]; · iexact A1
    iapply (pos_last c 1); iexact B1
  isplitl [A2 B2]
  · isplitl [A2]; · iexact A2
    iapply (pos_last c 2); iexact B2
  isplitl [A3]; · iexact A3
  iapply (pos_last c 3); iexact B3

theorem close_all (c : Dev nD) : (iprop(records m K ∗ lastPos c) : sProp 𝕄) ⊢ |={Set.univ}=> zeros c := by
  have h := Rounds.cells_close (Name := ℕ) ER (Rd (F := F) m) (Finset.univ : Finset Cell) (kcell c) (fun k => K (c, k)) (Es := Set.univ)
    (fun _ _ => Set.mem_univ _) (fun _ _ h => h) lastR (fun k _ => duties_last m c k)
  rw [bigSep_sep'] at h
  have hI : records (F := F) m K ⊢ bigSep Finset.univ fun k : Cell => cellInv ER (Rd m) (K (c, k)) (kcell c k) :=
    (BI.bigSep_of_persistent Finset.univ (records m K)).trans (bigSep_mono fun k _ => inv_at m K c k)
  exact (sep_mono_left hI).trans h

/-! ## The body -/

/-- The tokens of the duties a device pays. -/
def payToks (c : Dev nD) : sProp 𝕄 := iprop(bigSepL offs (tokB c) ∗ bigSepL offs (tokP c) ∗ bigSepL offs (tokR c))

/-- The protocol, to a device: every invariant, its positions, its tokens. -/
def ghost (c : Dev nD) : sProp 𝕄 := iprop(records m K ∗ (bigSep Finset.univ fun k : Cell => atPos ER (kcell c k) 0 ∅ 0) ∗ payToks c)

/-- The five scratch buffers at any contents. -/
def scr (c : Dev nD) : sProp 𝕄 := iprop((∃ f, pts c cc0_scratch0 f) ∗ (∃ f, pts c cc0_scratch1 f) ∗ (∃ f, pts c cc0_scratch2 f)
  ∗ (∃ f, pts c cc0_scratch3 f) ∗ ∃ f, pts c cc0_scratch4 f)

/-- The credits of the launch. -/
def creds (c : Dev nD) : sProp 𝕄 := iprop(cred (tallyAt (barCell c) () 31) ∗ bigSepL offs (credit c 1) ∗ bigSepL offs (credit c 3))

def ins (c : Dev nD) : sProp 𝕄 := iprop(pts c cc0_stg0_0 (xAt m c) ∗ pts c cc0_stg1_0 (wqAt m c) ∗ pts c cc0_stg2_0 (woAt m c)
  ∗ pts c cc0_stg3_0 (kAt m c) ∗ pts c cc0_stg4_0 (vAt m c))

theorem above_AR {n : ℕ} (h : n < 2) (c : Dev nD) : Above n (sumO (oweA c) offs + sumO (oweR c) offs) :=
  above_add (above_A (Nat.lt_succ_of_lt h) c _) (above_R h c _)

/-- What slots `c` needs of a peer, to send its chunks and its reduced rows to. -/
theorem slots_args (c : Dev nD) : (iprop(bigSepL offs (fun o => slotsAt (peer c o) o) ∗ bigSepL offs (tokP c) ∗ bigSepL offs (tokR c)) : sProp 𝕄)
    ⊢ iprop(bigSepL offs (sendArg c) ∗ bigSepL offs fun o => iprop(tokR c o ∗ anyAt (peer c o) (slot agM o))) := by
  unfold slotsAt
  rw [bigSepL_sep, bigSepL_sep (tokP (F := F) c), bigSepL_sep (tokR (F := F) c)]
  iintro ⟨⟨A, B⟩, C, D⟩
  isplitl [A C]
  · isplitl [C] <;> iassumption
  · isplitl [D] <;> iassumption

theorem done_out (c : Dev nD) : outHeld m c [] ⊢ pts c cc0_stg5_0 (outAt m c) := by
  unfold outHeld
  iintro ⟨%g, %h, H⟩
  ihave H' := (Entails.of_eq (congrArg (pts c cc0_stg5_0) (done_nil m c g h))) $$ H
  iexact H'

theorem read_wq (f : Vec F S1024x1024 .f32) : wqM.view.readAt (Elt F) (Rect.unit (s := S1024x1024) ![0, 0] S1024x1024.size inb_S1024x1024_S1024x1024_0_0).toLoadRect f = f :=
  Memref.readAt_unit_zero (Elt F) cc0_stg1_0 hz2 _ f
theorem read_wo (f : Vec F S1024x1024 .f32) : woM.view.readAt (Elt F) (Rect.unit (s := S1024x1024) ![0, 0] S1024x1024.size inb_S1024x1024_S1024x1024_0_0).toLoadRect f = f :=
  Memref.readAt_unit_zero (Elt F) cc0_stg2_0 hz2 _ f
theorem read_k (f : Vec F S1x2048x8x128 .f32) : kM.view.readAt (Elt F) (Rect.unit (s := S1x2048x8x128) ![0, 0, 0, 0] S1x2048x8x128.size inb_S1x2048x8x128_S1x2048x8x128_0_0_0_0).toLoadRect f = f :=
  Memref.readAt_unit_zero (Elt F) cc0_stg3_0 hz4 _ f
theorem read_v (f : Vec F S1x2048x8x128 .f32) : vM.view.readAt (Elt F) (Rect.unit (s := S1x2048x8x128) ![0, 0, 0, 0] S1x2048x8x128.size inb_S1x2048x8x128_S1x2048x8x128_0_0_0_0).toLoadRect f = f :=
  Memref.readAt_unit_zero (Elt F) cc0_stg4_0 hz4 _ f

set_option maxHeartbeats 2000000 in
theorem sound (c : Dev nD) (g : Vec F S1x512x1024 .f32) (Q : PUnit → sProp 𝕄) :
    iprop(ghost m K c ∗ creds c ∗ levAts L lv ∗ scr c ∗ owing c (O₀ c) ∗ ins m c ∗ pts c cc0_stg5_0 g)
      ⊢ iprop((scr c ∗ zeros c ∗ owing c 0 ∗ ins m c ∗ pts c cc0_stg5_0 (outAt m c) -∗ Q ⟨⟩)
        -∗ run c (body xM wqM woM kM vM oM catM stM (Memref.isWhole_whole _) rsM (Memref.isWhole_whole _) redM (Memref.isWhole_whole _)
          agM (Memref.isWhole_whole _) cc0_scratch5 cc0_scratch6 cc0_scratch7 cc0_scratch8) Q) := by
  unfold ghost creds scr ins payToks
  rw [cells_split fun k : Cell => atPos ER (kcell c k) 0 ∅ 0]
  iintro ⟨⟨#HK, ⟨pB, ⟨pD0, pL0⟩, ⟨pD1, pL1⟩, ⟨pD2, pL2⟩, pD3, pL3⟩, tB, tP, tR⟩, ⟨cB, cL1, cL3⟩, #HL, ⟨⟨%f0, S0⟩, ⟨%f1, S1⟩, ⟨%f2, S2⟩, ⟨%f3, S3⟩, ⟨%f4, S4⟩⟩,
    HO, ⟨X, WQ, WO, HKb, HVb⟩, OUT⟩ HQ
  ihave #HKL := (show iprop(records m K ∗ levAts L lv) ⊢ world (F := F) m K from BI.Entails.refl _) $$ []
  · isplitr; · iexact HK
    iexact HL
  ihave S1 := (stage_split c f1) $$ S1
  ihave S24 := (slots_split c f2 f4) $$ [S2 S4]
  · isplitl [S2] <;> iassumption
  icases S24 with ⟨R0, G0, SL⟩
  unfold body run
  simp only [Prog.lift, Prog.bind_op, Prog.bind_ret, wp_deviceId]
  rw [wp_bind]
  iapply (loop_greet m K c (sumO (oweA c) offs + sumO (oweR c) offs) _) $$ [tB SL HO]
  · isplitr; · iexact HK
    isplitl [tB SL]
    · isplitl [tB] <;> iassumption
    iexact HO
  iintro HO
  rw [wp_bind]
  iapply (step_bar m K c (sumO (oweA c) offs + sumO (oweR c) offs) (above_AR (by decide) c) _) $$ [cB pB HO]
  · isplitr; · iexact HK
    isplitr; · iexact HL
    isplitl [cB]; · iexact cB
    isplitl [pB]; · iexact pB
    iexact HO
  iintro ⟨SL, pB, HO⟩
  ihave SL := (slots_args c) $$ [SL tP tR]
  · isplitl [SL]; · iexact SL
    isplitl [tP] <;> iassumption
  icases SL with ⟨SP, SR⟩
  rw [wp_bind]
  iapply (step_copyIn c (xAt m c) f0 _) $$ [X S0]
  · isplitl [X] <;> iassumption
  iintro ⟨X, S0⟩
  iapply (wp_load 𝒱₀ (c : Thread nD τ) none Set.univ (m := wqM) (Finset.subset_univ _)) $$ WQ; iintro WQ
  iapply (wp_load 𝒱₀ (c : Thread nD τ) none Set.univ (m := woM) (Finset.subset_univ _)) $$ WO; iintro WO
  iapply (wp_load 𝒱₀ (c : Thread nD τ) none Set.univ (m := kM) (Finset.subset_univ _)) $$ HKb; iintro HKb
  iapply (wp_load 𝒱₀ (c : Thread nD τ) none Set.univ (m := vM) (Finset.subset_univ _)) $$ HVb; iintro HVb
  rw [read_wq, read_wo, read_k, read_v]
  rw [wp_bind]
  iapply (loop_groups m K c (sumO (oweA c) offs) _) $$ [SP S0 S1 HO]
  · isplitr; · iexact HK
    isplitl [SP]; · iexact SP
    isplitl [S0]; · iexact S0
    isplitl [S1] <;> iassumption
  iintro ⟨cL0, S0, C31, HO⟩
  rw [wp_bind]
  iapply (step_keepOwn m c _) $$ [C31 R0]
  · isplitl [C31] <;> iassumption
  iintro ⟨C31, R0⟩
  rw [wp_bind]
  iapply (loop_recvPart m K c _) $$ [cL1 pL1 HO]
  · isplitr; · iexact HKL
    isplitl [cL1]; · iexact cL1
    isplitl [pL1] <;> iassumption
  iintro ⟨R1, pL1, HO⟩
  ihave S2 := (parts_join m c) $$ [R0 R1]
  · isplitl [R0] <;> iassumption
  rw [wp_bind]
  iapply (step_reduce m c f3 g _) $$ [S2 S3 OUT]
  · isplitl [S2]; · iexact S2
    isplitl [S3] <;> iassumption
  iintro ⟨S2, ⟨E0, EL⟩, OUT⟩
  rw [wp_bind]
  iapply (loop_sendRed m K c _) $$ [SR EL HO]
  · isplitr; · iexact HK
    isplitl [SR]; · iexact SR
    isplitl [EL] <;> iassumption
  iintro ⟨cL2, HO⟩
  rw [wp_bind]
  iapply (loop_recvRed m K c _) $$ [cL3 pL3 HO]
  · isplitr; · iexact HKL
    isplitl [cL3]; · iexact cL3
    isplitl [pL3] <;> iassumption
  iintro ⟨G1, pL3, HO⟩
  rw [wp_bind]
  iapply (loop_unpack m c _) $$ [G1 OUT]
  · isplitl [G1] <;> iassumption
  iintro ⟨G1, OUT⟩
  rw [wp_bind]
  iapply (loop_donePart m K c _) $$ [cL0 pL0 HO]
  · isplitr; · iexact HKL
    isplitl [cL0]; · iexact cL0
    isplitl [pL0] <;> iassumption
  iintro ⟨C1, pL0, HO⟩
  iapply (wp_fupd _ _ _ _ _)
  iapply (loop_doneRed m K c _) $$ [cL2 pL2 HO]
  · isplitr; · iexact HKL
    isplitl [cL2]; · iexact cL2
    isplitl [pL2] <;> iassumption
  iintro ⟨E1, pL2, HO⟩
  ihave P := (pos_all (F := F) c) $$ [pB pD0 pD1 pD2 pD3 pL0 pL1 pL2 pL3]
  · isplitl [pB]; · iexact pB
    isplitl [pD0 pL0]; · isplitl [pD0] <;> iassumption
    isplitl [pD1 pL1]; · isplitl [pD1] <;> iassumption
    isplitl [pD2 pL2]; · isplitl [pD2] <;> iassumption
    isplitl [pD3] <;> iassumption
  imod (close_all m K c) $$ [P] with Z
  · isplitr; · iexact HK
    iexact P
  imodintro
  iapply HQ
  isplitl [S0 S2 C31 C1 E0 E1 G0 G1]
  · isplitl [S0]; · iexists _; iexact S0
    isplitl [C31 C1]
    · iapply (stage_join m c); isplitl [C31] <;> iassumption
    isplitl [S2]; · iexists _; iexact S2
    isplitl [E0 E1]
    · iapply (red_join m c); isplitl [E0] <;> iassumption
    iapply (ag_join m c); isplitl [G0] <;> iassumption
  isplitl [Z]; · iexact Z
  isplitl [HO]; · iexact HO
  isplitl [X WQ WO HKb HVb]
  · isplitl [X]; · iexact X
    isplitl [WQ]; · iexact WQ
    isplitl [WO]; · iexact WO
    isplitl [HKb] <;> iassumption
  iapply (done_out m c); iexact OUT

end Cert.KernelIdeal.Hand

end
-- ==== Proof.Launch.lean ====
/- The launch: the semaphores' protocol set up for all the devices at once, its tokens dealt to the devices that pay the duties,
   and the credit of what every device is owed. -/
module

public import proofs.«01_k».proof.Proof.Sound

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide +kernel

theorem kcell_injective : Function.Injective (fun p : Dev nD × Cell => kcell p.1 p.2) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨fun p : Dev nD × Cell => kcell p.1 p.2, kcell_injective⟩

/-- Row `j`'s semaphore for duty `o`: the barrier has every duty, a copy's semaphore one. -/
abbrev cellAt (c : Dev nD) (j : Option (Fin 4)) (o : Fin 32) : GSem nD τ sig := kcell c (j.map fun k => (k, o))

abbrev tokOf (x : Dev nD × Option (Fin 4) × Fin 32) : GSem nD τ sig × ℕ × Fin 32 := (cellAt x.1 x.2.1 x.2.2, 0, x.2.2)

theorem tokOf_injective : Function.Injective tokOf := by
  rintro ⟨c, j, o⟩ ⟨c', j', o'⟩ h
  have h3 : o = o' := congrArg (fun x : GSem nD τ sig × ℕ × Fin 32 => x.2.2) h
  have h1 : c = c' := congrArg (fun x : GSem nD τ sig × ℕ × Fin 32 => x.1.1.1) h
  have h2 : (j.map fun k => (k, o) : Cell) = j'.map fun k => (k, o') :=
    csem_injective (congrArg (fun x : GSem nD τ sig × ℕ × Fin 32 => x.1.2) h)
  subst h3 h1
  have : j = j' := by
    cases j <;> cases j'
    · rfl
    · cases h2
    · cases h2
    · exact congrArg some (congrArg Prod.fst (Option.some.inj h2))
  rw [this]

def allToks : Finset (GSem nD τ sig × ℕ × Fin 32) := Finset.univ.map ⟨tokOf, tokOf_injective⟩

def u₀ : UU := (initOf (Pipeline.cells cfgs cellOf_inj) (Pipeline.launchToks cfgs cellOf_inj), initOf allCells allToks)

/-- The tokens of the duties of a device's own semaphores. -/
def toks (c : Dev nD) : sProp 𝕄 := bigSep Finset.univ fun j : Option (Fin 4) => bigSep Finset.univ fun o : Fin 32 => dutyTok ER (cellAt c j o) 0 o

/-- What the launch deals a device, -/
def G (c : Dev nD) : sProp 𝕄 :=
  iprop((bigSep Finset.univ fun k : Cell => roundState ER (Rd m) (kcell c k) 0)
    ∗ (bigSep Finset.univ fun k : Cell => iprop(atPos ER (kcell c k) 0 ∅ 0 ∗ reached ER (kcell c k) 0)) ∗ toks c)
/-- and what the devices together make of it. -/
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cell => Φ (kcell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem bigSep_cells (Φ : Cell → sProp 𝕄) : bigSep Finset.univ Φ = iprop(Φ none ∗ bigSep Finset.univ fun p : Fin 4 × Fin 32 => Φ (some p)) := by
  rw [bigSep_univ_at Φ none]
  have h : (Finset.univ.erase none : Finset Cell) = Finset.univ.map Function.Embedding.some := by
    ext x; cases x <;> simp
  rw [h, bigSep_map]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  unfold zeros
  rw [bigSep_cells, unscopedSems0_eq]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Rd m) κ (kcell c k)))
          ∗ (bigSep Finset.univ fun k : Cell => iprop(atPos ER (kcell c k) 0 ∅ 0 ∗ reached ER (kcell c k) 0)) ∗ toks c) := by
  unfold G
  iintro ⟨Hos, Hus, Hst, Hat, Htok⟩
  ihave Hv := (Entails.of_eq (zeros_eq (F := F) c).symm) $$ [Hos Hus]
  · isplitl [Hus] <;> iassumption
  imod (show iprop(zeros c ∗ bigSep Finset.univ fun k : Cell => roundState ER (Rd m) (kcell c k) 0)
      ⊢ (|={Set.univ}=> bigSep Finset.univ fun k : Cell => iprop(∃ κ : ℕ, cellInv ER (Rd m) κ (kcell c k)) : sProp 𝕄) from by
        unfold zeros
        rw [← bigSep_sep']
        exact (bigSep_mono fun k _ => (Rounds.body_intro ER (Rd m) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around -/

def peerE : Dev nD × Fin 32 ≃ Dev nD × Fin 32 :=
  ⟨fun p => (peer p.1 p.2, p.2), fun p => (back p.1 p.2, p.2), fun p => by simp only [back_peer], fun p => by simp only [peer_back]⟩

theorem around (Φ : Dev nD → Fin 32 → sProp 𝕄) : (bigSep Finset.univ fun c => bigSep Finset.univ fun o => Φ c o)
    = bigSep Finset.univ fun c => bigSep Finset.univ fun o => Φ (peer c o) o := by
  rw [← bigSep_univ_prod fun p : Dev nD × Fin 32 => Φ p.1 p.2, bigSep_univ_equiv peerE, bigSep_univ_prod]
  rfl

theorem sent_only (Φ : Fin 32 → sProp 𝕄) : bigSep Finset.univ Φ ⊢ bigSepL offs Φ := by
  rw [univ_offs]
  iintro ⟨-, H⟩
  iexact H

theorem bigSep_rows (Φ : Option (Fin 4) → sProp 𝕄) : bigSep Finset.univ Φ = iprop(Φ none ∗ Φ (some 0) ∗ Φ (some 1) ∗ Φ (some 2) ∗ Φ (some 3)) :=
  bigSep_univ_eq_bigSepL [none, some 0, some 1, some 2, some 3] (by decide) (by decide) Φ

theorem deal_one (c : Dev nD) :
    iprop((bigSep Finset.univ fun o : Fin 32 => dutyTok ER (cellAt (peer c o) none o) 0 o) ∗ (bigSep Finset.univ fun o : Fin 32 => dutyTok ER (cellAt c (some 0) o) 0 o)
      ∗ (bigSep Finset.univ fun o : Fin 32 => dutyTok ER (cellAt (peer c o) (some 1) o) 0 o) ∗ (bigSep Finset.univ fun o : Fin 32 => dutyTok ER (cellAt c (some 2) o) 0 o)
      ∗ bigSep Finset.univ fun o : Fin 32 => dutyTok ER (cellAt (peer c o) (some 3) o) 0 o) ⊢ (payToks c : sProp 𝕄) := by
  unfold payToks
  rw [bigSepL_sep (fun o => (dutyTok ER (dcell c 0 o) 0 o : sProp 𝕄)), bigSepL_sep (fun o => (dutyTok ER (dcell c 2 o) 0 o : sProp 𝕄))]
  have h0 := sent_only fun o => (dutyTok ER (dcell c 0 o) 0 o : sProp 𝕄)
  have h1 := sent_only fun o => (dutyTok ER (dcell (peer c o) 1 o) 0 o : sProp 𝕄)
  have h2 := sent_only fun o => (dutyTok ER (dcell c 2 o) 0 o : sProp 𝕄)
  have h3 := sent_only fun o => (dutyTok ER (dcell (peer c o) 3 o) 0 o : sProp 𝕄)
  iintro ⟨HB, H0, H1, H2, H3⟩
  isplitl [HB]; · iapply (sent_only (tokB (F := F) c)); iexact HB
  isplitl [H0 H1]
  · isplitl [H0]
    · iapply h0; iexact H0
    · iapply h1; iexact H1
  · isplitl [H2]
    · iapply h2; iexact H2
    · iapply h3; iexact H3

theorem toks_around : (bigSep Finset.univ fun c : Dev nD => (toks c : sProp 𝕄)) ⊢ bigSep Finset.univ fun c : Dev nD => payToks c := by
  unfold toks
  rw [bigSep_congr (s := Finset.univ) fun (c : Dev nD) _ => bigSep_rows fun j => bigSep Finset.univ fun o : Fin 32 => (dutyTok ER (cellAt c j o) 0 o : sProp 𝕄)]
  rw [bigSep_sep', bigSep_sep', bigSep_sep', bigSep_sep',
    around fun c o => dutyTok ER (cellAt c none o) 0 o, around fun c o => dutyTok ER (cellAt c (some 1) o) 0 o, around fun c o => dutyTok ER (cellAt c (some 3) o) 0 o]
  rw [← bigSep_sep', ← bigSep_sep', ← bigSep_sep', ← bigSep_sep']
  refine bigSep_mono fun c _ => ?_
  exact deal_one c

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Cell → ℕ) (c : Dev nD) :
    iprop(records m K ∗ (bigSep Finset.univ fun k : Cell => atPos ER (kcell c k) 0 ∅ 0) ∗ payToks c) ⊢ G' m c := by
  unfold G' ghost
  iintro H
  iexists K
  iexact H

theorem regroup :
    (bigSep Finset.univ fun c : Dev nD => iprop((bigSep Finset.univ fun k : Cell => iprop(∃ κ : ℕ, cellInv ER (Rd m) κ (kcell c k)))
          ∗ (bigSep Finset.univ fun k : Cell => iprop(atPos ER (kcell c k) 0 ∅ 0 ∗ reached ER (kcell c k) 0)) ∗ toks c) : sProp 𝕄)
      ⊢ bigSep Finset.univ (G' m) := by
  rw [bigSep_sep', bigSep_sep', ← bigSep_univ_prod (fun ck : Dev nD × Cell => iprop(∃ κ : ℕ, cellInv ER (Rd m) κ (kcell ck.1 ck.2))),
    bigSep_congr (s := Finset.univ) (fun (c : Dev nD) _ => bigSep_sep' Finset.univ (fun k : Cell => (atPos ER (kcell c k) 0 ∅ 0 : sProp 𝕄)) (fun k => reached ER (kcell c k) 0)),
    bigSep_sep', ← bigSep_univ_prod (fun ck : Dev nD × Cell => (reached ER (kcell ck.1 ck.2) 0 : sProp 𝕄))]
  iintro ⟨HI, ⟨Hat, #HR⟩, Htok⟩
  ihave HK := (BI.bigSep_exists_pi Finset.univ (fun (ck : Dev nD × Cell) (κ : ℕ) => (cellInv ER (Rd m) κ (kcell ck.1 ck.2) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · iapply (Entails.of_eq (bigSep_sep' Finset.univ (fun c : Dev nD => bigSep Finset.univ fun k : Cell => (atPos ER (kcell c k) 0 ∅ 0 : sProp 𝕄)) payToks).symm)
    isplitl [Hat]; · iexact Hat
    iexact Htk

/-- The protocol set up, over all the devices. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem sum_sumO (f : Dev nD → Fin 32 → CellTallies nD τ sig Unit) (g : GSem nD τ sig) : ∀ l : List (Fin 32),
    ∑ d : Dev nD, sumO (f d) l g () = (l.map fun o => ∑ d : Dev nD, f d o g ()).sum
  | [] => by
    show ∑ d : Dev nD, (0 : CellTallies nD τ sig Unit) g () = 0
    exact Finset.sum_const_zero
  | o :: l => by
    rw [List.map_cons, List.sum_cons, ← sum_sumO f g l, ← Finset.sum_add_distrib]
    exact Finset.sum_congr rfl fun d _ => add_comm _ _

theorem kcell_eq {a b : Dev nD} {k k' : Cell} : kcell a k = kcell b k' ↔ a = b ∧ k = k' :=
  ⟨fun h => Prod.mk.injEq .. ▸ kcell_injective (a₁ := (a, k)) (a₂ := (b, k')) h, fun h => by rw [h.1, h.2]⟩

/-- All that is owed to one semaphore at one offset. -/
theorem sum_owed (k k' : Cell) (c : Dev nD) (o : Fin 32) (n : ℕ) :
    ∑ d : Dev nD, (tallyAt (kcell (peer d o) k) () n : CellTallies nD τ sig Unit) (kcell c k') () = if k = k' then n else 0 := by
  rw [Finset.sum_congr rfl fun d _ => show _ = (if d = back c o then (if k = k' then n else 0) else 0) from by
    rw [tallyAt_apply]
    by_cases hk : k = k'
    · subst hk
      by_cases hd : d = back c o
      · subst hd; rw [peer_back, if_pos ⟨rfl, rfl⟩, if_pos rfl, if_pos rfl]
      · rw [if_neg hd, if_neg fun h => hd (by rw [← back_peer d o, ← (kcell_eq.mp h.1).1])]
    · rw [if_neg hk, if_neg fun h => hk (kcell_eq.mp h.1).2.symm, ite_self]]
  rw [Finset.sum_ite_eq' Finset.univ (back c o), if_pos (Finset.mem_univ _)]

/-- All that is owed to one semaphore. -/
theorem owed_all (c : Dev nD) (k : Cell) : ∑ d : Dev nD, O₀ d (kcell c k) ()
    = (offs.map fun o => if (some (3, o) : Cell) = k then N else 0).sum + (offs.map fun o => if (some (1, o) : Cell) = k then N else 0).sum
      + (offs.map fun o => if (none : Cell) = k then 1 else 0).sum := by
  unfold O₀
  rw [Finset.sum_congr rfl fun d _ => show _ = (sumO (oweA d) offs (kcell c k) () + sumO (oweR d) offs (kcell c k) ()) + sumO (oweB d) offs (kcell c k) () from by
    rw [Pi.add_apply, Finsupp.add_apply, Pi.add_apply, Finsupp.add_apply],
    Finset.sum_add_distrib, Finset.sum_add_distrib, sum_sumO, sum_sumO, sum_sumO]
  unfold oweA oweR oweB
  simp only [sum_owed]

theorem sum_zero (f : Fin 32 → ℕ) (h : ∀ o, f o = 0) : (offs.map f).sum = 0 := by
  rw [show f = fun _ => 0 from funext h]; rfl
theorem sum_one (n : ℕ) (j : Fin 4) {o : Fin 32} (ho : o ≠ 0) : (offs.map fun o' => if (some (j, o') : Cell) = some (j, o) then n else 0).sum = n := by
  have : ∀ o' : Fin 32, ((some (j, o') : Cell) = some (j, o)) ↔ o' = o := fun o' => ⟨fun h => congrArg Prod.snd (Option.some.inj h), fun h => by rw [h]⟩
  simp only [this]
  rw [← List.sum_toFinset _ offs_nodup, Finset.sum_ite_eq' offs.toFinset o, if_pos (List.mem_toFinset.mpr (mem_offs ho))]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, owed_all, sum_zero _ fun o => if_neg (by simp), sum_zero _ fun o => if_neg (by simp)]
  rfl
theorem launch_R (c : Dev nD) {o : Fin 32} (ho : o ≠ 0) :
    tallyOn (dcell c 1 o) (launchCredit (Pipeline.owing O₀) 0 (dcell c 1 o)) = (tallyAt (dcell c 1 o) () N : CellTallies nD τ sig Unit) := by
  unfold tallyAt; refine congrArg _ (Finsupp.ext fun u => ?_); cases u
  rw [Pipeline.launchCredit_owing, Finsupp.single_eq_same, owed_all, sum_zero _ fun o => if_neg (by simp), sum_zero (fun _ => if (none : Cell) = some (1, o) then 1 else 0) fun o => if_neg (by simp), sum_one N 1 ho]
  rw [Nat.zero_add, Nat.add_zero]
theorem launch_A (c : Dev nD) {o : Fin 32} (ho : o ≠ 0) :
    tallyOn (dcell c 3 o) (launchCredit (Pipeline.owing O₀) 0 (dcell c 3 o)) = (tallyAt (dcell c 3 o) () N : CellTallies nD τ sig Unit) := by
  unfold tallyAt; refine congrArg _ (Finsupp.ext fun u => ?_); cases u
  rw [Pipeline.launchCredit_owing, Finsupp.single_eq_same, owed_all, sum_one N 3 ho, sum_zero (fun o' => if (some (1, o') : Cell) = some (3, o) then N else 0) fun o => if_neg (by simp), sum_zero _ fun o => if_neg (by simp), Nat.add_zero]

theorem launch_creds (c : Dev nD) : (Pipeline.launchCred O₀ c : sProp 𝕄) ⊢ creds c := by
  unfold Pipeline.launchCred creds
  refine (bigSep_subset (Finset.subset_univ (Finset.univ.map ⟨csem, csem_injective⟩))).trans ?_
  rw [bigSep_map]
  show (bigSep Finset.univ fun k : Cell => cred (tallyOn (kcell c k) (launchCredit (Pipeline.owing O₀) 0 (kcell c k))) : sProp 𝕄) ⊢ _
  rw [cells_split, launch_bar]
  have hR : (bigSepL offs fun o => cred (tallyOn (dcell c 1 o) (launchCredit (Pipeline.owing O₀) 0 (dcell c 1 o)))) ⊢ (bigSepL offs (credit c 1) : sProp 𝕄) :=
    bigSepL_mono fun o ho => Entails.of_eq (congrArg cred (launch_R c (offs_ne o ho)))
  have hA : (bigSepL offs fun o => cred (tallyOn (dcell c 3 o) (launchCredit (Pipeline.owing O₀) 0 (dcell c 3 o)))) ⊢ (bigSepL offs (credit c 3) : sProp 𝕄) :=
    bigSepL_mono fun o ho => Entails.of_eq (congrArg cred (launch_A c (offs_ne o ho)))
  iintro ⟨HB, -, ⟨-, HR⟩, -, -, HA⟩
  isplitl [HB]; · iexact HB
  isplitl [HR]
  · iapply hR; iexact HR
  · iapply hA; iexact HA

end Cert.KernelIdeal.Hand

end
-- ==== Proof.Run.lean ====
/- The run: from any memory with zero counters, the kernel on its 32 devices ends with each result array at the computed
   contents, the arguments as they were, and every counter at zero. -/
module

public import proofs.«01_k».proof.Proof.Launch
public import Idealize.ShloMosaic.Lib.Pipeline.CollectiveSegs

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What a device starts from: the protocol, the credit of what it is owed, the levels. -/
def start (c : Dev nD) : sProp 𝕄 := iprop(G' m c ∗ creds c ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => wqAt m c
    | ⟨2, _⟩ => woAt m c
    | ⟨3, _⟩ => kAt m c
    | ⟨4, _⟩ => vAt m c
    | ⟨5, _⟩ => outAt m c
  Φ t := match t with
    | ⟨0, _⟩ => iprop(start m c ∗ scr c)
    | ⟨_ + 1, _⟩ => iprop(scr c ∗ zeros c)
  q _ := fullShare
  owed t := match t with
    | ⟨0, _⟩ => O₀ c
    | ⟨_ + 1, _⟩ => 0

theorem exists_eq_pure {X : Type} (Φ : X → sProp 𝕄) (a : X) : (iprop(∃ f, ⌜f = a⌝ ∗ Φ f) : sProp 𝕄) = Φ a := by
  have h1 : (iprop(∃ f, ⌜f = a⌝ ∗ Φ f) : sProp 𝕄) ⊢ Φ a := by
    iintro ⟨%f, %h, H⟩
    subst h
    iexact H
  have h2 : Φ a ⊢ (iprop(∃ f, ⌜f = a⌝ ∗ Φ f) : sProp 𝕄) := by
    iintro H
    iexists a
    isplitr; · ipureintro; rfl
    iexact H
  exact Entails.antisymm h1 h2

theorem owns_stage (c : Dev nD) (b : Ref sig .tc) (X : b.ty.Contents (Elt F)) :
    (owns (Ix := Unit) (Name := ℕ) (U := UU) (Lvl := ℕ) (c : Thread nD τ) (Memref.whole b) fullShare X : sProp 𝕄) = pts c b X := by
  unfold owns pts
  simp only [Memref.view_whole, View.read_whole, View.set_whole]
  exact exists_eq_pure (fun f : Buf (Elt F) ((c : Thread nD τ).loc b) => (((c : Thread nD τ).loc b) ↦{fullShare} f : sProp 𝕄)) X

def bodyPre (c : Dev nD) : sProp 𝕄 :=
  iprop((start m c ∗ scr c) ∗ (dats m ρ 0 c).owesAt () t0_0.castSucc
    ∗ (∃ d, pts c cc0_stg0_0 ((dats m ρ 0 c).before (0 : Fin 6) t0_0 d)) ∗ (∃ d, pts c cc0_stg1_0 ((dats m ρ 0 c).before (1 : Fin 6) t0_0 d))
    ∗ (∃ d, pts c cc0_stg2_0 ((dats m ρ 0 c).before (2 : Fin 6) t0_0 d)) ∗ (∃ d, pts c cc0_stg3_0 ((dats m ρ 0 c).before (3 : Fin 6) t0_0 d))
    ∗ (∃ d, pts c cc0_stg4_0 ((dats m ρ 0 c).before (4 : Fin 6) t0_0 d)) ∗ (∃ d, pts c cc0_stg5_0 ((dats m ρ 0 c).before (5 : Fin 6) t0_0 d)))

def bodyPost (c : Dev nD) : sProp 𝕄 :=
  iprop((scr c ∗ zeros c) ∗ (dats m ρ 0 c).owesAt () t0_0.succ ∗ pts c cc0_stg0_0 (xAt m c) ∗ pts c cc0_stg1_0 (wqAt m c) ∗ pts c cc0_stg2_0 (woAt m c)
    ∗ pts c cc0_stg3_0 (kAt m c) ∗ pts c cc0_stg4_0 (vAt m c) ∗ pts c cc0_stg5_0 (outAt m c))

theorem before_0 (c : Dev nD) (d) : (dats m ρ 0 c).before (0 : Fin 6) t0_0 d = xAt m c := by unfold Dat.before; rw [if_pos (fetch0_0 _)]; rfl
theorem before_1 (c : Dev nD) (d) : (dats m ρ 0 c).before (1 : Fin 6) t0_0 d = wqAt m c := by unfold Dat.before; rw [if_pos (fetch0_1 _)]; rfl
theorem before_2 (c : Dev nD) (d) : (dats m ρ 0 c).before (2 : Fin 6) t0_0 d = woAt m c := by unfold Dat.before; rw [if_pos (fetch0_2 _)]; rfl
theorem before_3 (c : Dev nD) (d) : (dats m ρ 0 c).before (3 : Fin 6) t0_0 d = kAt m c := by unfold Dat.before; rw [if_pos (fetch0_3 _)]; rfl
theorem before_4 (c : Dev nD) (d) : (dats m ρ 0 c).before (4 : Fin 6) t0_0 d = vAt m c := by unfold Dat.before; rw [if_pos (fetch0_4 _)]; rfl

theorem body_run (c : Dev nD) (Q : PUnit → sProp 𝕄) :
    iprop(bodyPre m ρ c ∗ (bodyPost m ρ c -∗ Q ⟨⟩))
      ⊢ run c (body xM wqM woM kM vM oM catM stM (Memref.isWhole_whole _) rsM (Memref.isWhole_whole _) redM (Memref.isWhole_whole _)
          agM (Memref.isWhole_whole _) cc0_scratch5 cc0_scratch6 cc0_scratch7 cc0_scratch8) Q := by
  unfold bodyPre start G' Dat.owesAt Pipeline.owesWithin
  rw [show (dats m ρ 0 c).owed t0_0.castSucc = O₀ c from rfl]
  simp only [before_0, before_1, before_2, before_3, before_4]
  iintro ⟨⟨⟨⟨⟨%K, Hg⟩, Hc, HL⟩, Hs⟩, ⟨%W, %hW, HO⟩, ⟨%d0, X⟩, ⟨%d1, WQ⟩, ⟨%d2, WO⟩, ⟨%d3, HKb⟩, ⟨%d4, HVb⟩, ⟨%d5, OUT⟩⟩, HQ⟩
  iapply (sound m K c _ Q) $$ [Hg Hc HL Hs HO X WQ WO HKb HVb OUT]
  · isplitl [Hg]; · iexact Hg
    isplitl [Hc]; · iexact Hc
    isplitl [HL]; · iexact HL
    isplitl [Hs]; · iexact Hs
    isplitl [HO]; · unfold owing; iexists W; iexact HO
    isplitl [X WQ WO HKb HVb]
    · unfold ins
      isplitl [X]; · iexact X
      isplitl [WQ]; · iexact WQ
      isplitl [WO]; · iexact WO
      isplitl [HKb] <;> iassumption
    iexact OUT
  unfold ins owing
  iintro ⟨Hs, Hz, ⟨%W', HO⟩, ⟨X, WQ, WO, HKb, HVb⟩, OUT⟩
  iapply HQ
  unfold bodyPost Dat.owesAt Pipeline.owesWithin
  rw [show (dats m ρ 0 c).owed t0_0.succ = 0 from rfl]
  isplitl [Hs Hz]
  · isplitl [Hs] <;> iassumption
  isplitl [HO]
  · iexists W'
    isplitr; · ipureintro; exact fun _ _ => Or.inl trivial
    iexact HO
  isplitl [X]; · iexact X
  isplitl [WQ]; · iexact WQ
  isplitl [WO]; · iexact WO
  isplitl [HKb]; · iexact HKb
  isplitl [HVb] <;> iassumption

set_option maxRecDepth 100000 in
/-- The printed body is the one proved. -/
theorem bodyAt_eq : bodyAt0 (F := F) t0_0 = body xM wqM woM kM vM oM catM stM (Memref.isWhole_whole _) rsM (Memref.isWhole_whole _) redM (Memref.isWhole_whole _)
          agM (Memref.isWhole_whole _) cc0_scratch5 cc0_scratch6 cc0_scratch7 cc0_scratch8 := by
  show cc0_body xM (Memref.isWhole_whole _) wqM (Memref.isWhole_whole _) woM (Memref.isWhole_whole _) kM (Memref.isWhole_whole _) vM (Memref.isWhole_whole _)
    oM (Memref.isWhole_whole _) catM (Memref.isWhole_whole _) stM (Memref.isWhole_whole _) rsM (Memref.isWhole_whole _) redM (Memref.isWhole_whole _)
    agM (Memref.isWhole_whole _) cc0_scratch5 cc0_scratch6 cc0_scratch7 cc0_scratch8 = _
  rw [cc0_body_eq_skeleton]
  exact body_eq _ _ _ _ _ _ _ _ _ _ _ _ _ _ _ _ _ _ _ _ _ _ _ _ _ _

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  simp only [owns_stage]
  show bodyPre m ρ c ⊢ wp frame (wpE (defs₀ (F := F)) 𝒱₀ c none) Set.univ (bodyAt0 t0_0) (fun _ => bodyPost m ρ c)
  rw [bodyAt_eq]
  have h : bodyPre m ρ c ⊢ iprop(bodyPre m ρ c ∗ (bodyPost m ρ c -∗ bodyPost m ρ c)) := by
    iintro H
    isplitl [H]; · iexact H
    iintro H; iexact H
  exact h.trans (body_run m ρ c fun _ => bodyPost m ρ c)

/-! ## The side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scr c) from rfl, scopedRest0_eq]
  unfold scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scr c ∗ zeros c) from rfl, scopedRest0_eq, zeros_eq]
  unfold scr
  iintro ⟨Hr, Hu, Ho⟩
  isplitl [Hu]; · iexact Hu
  isplitl [Ho]; · iexact Ho
  iexact Hr

theorem stage_level : ∀ (w : Fin cfg0.W) (s : Fin (cfg0.spec w).nbuf), dec (.dma ((cfg0.spec w).sem s)) = none := by decide

theorem waits (c : Dev nD) : (levAts L lv : sProp 𝕄) ⊢ Pipeline.cellsWaits cfgs (dats m ρ) () 0 c :=
  Pipeline.cellsWaits_intro cfgs (dats m ρ) () 0 c fun w s t =>
    mayWait_of c _ (n := 0) (by unfold lv; rw [stage_level w s]; exact le_refl 0) (by
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m ρ 0 c).arrAt w cfg0.N

set_option maxRecDepth 100000 in
/-- Every execution ends, with every window's array at what the pipeline leaves in it and every counter at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Hand

end
-- ==== Proof.Frames.lean ====
/- The frames: the kernel's run (at bits and over the reals) leaves the five arguments as they were and every counter at
   zero; so does the reference's. -/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.KernelIdeal.Hand

open Idealize.ShloMosaic Idealize.ShloMosaic.TcCoe
open Idealize.SL.Sem
open Cert.KernelIdeal Cert.KernelIdeal.Gen
open Idealize.ShloMosaic.Pipeline (Dat)

variable {F : FTy → Type} [FloatOps F]

variable (m : (ℓ : Loc nD τ sig) → Buf (Elt F) ℓ) (ρ : Dev nD → PrngReg)

/-- The five arguments of a device hold what they held at launch. -/
def Kept (c : Dev nD) (s : (ℓ : Loc nD τ sig) → Buf (Elt F) ℓ) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)

/-- A final memory whose window arrays are the pipeline's has its arguments unchanged. -/
theorem kept_of_final (c : Dev nD) {s : (ℓ : Loc nD τ sig) → Buf (Elt F) ℓ}
    (h : ∀ w : Fin cfg0.W, s ((cfg0.win w).arr.view.loc (c : Thread nD τ)) = finalA m ρ c w) : Kept m c s :=
  ⟨(h 0).trans ((dats m ρ 0 c).arrAt_in 0 rfl _), (h 1).trans ((dats m ρ 0 c).arrAt_in 1 rfl _),
    (h 3).trans ((dats m ρ 0 c).arrAt_in 3 rfl _), (h 4).trans ((dats m ρ 0 c).arrAt_in 4 rfl _),
    (h 2).trans ((dats m ρ 0 c).arrAt_in 2 rfl _)⟩

/-- The frame, over any float values: the arguments are kept and every counter ends at zero. -/
theorem run_frame : θ_run defs (onTc (τ := τ) (main (F := F))) (s₀ m ρ) (fun r =>
    (∀ c : Dev nD, Kept m c r.2.mem) ∧ r.2.sem = fun _ => 0) :=
  (θ_run defs _ _).mono (fun _ h => ⟨fun c => kept_of_final m ρ c (h.1 c), h.2⟩) (run_main m ρ)

end Cert.KernelIdeal.Hand

namespace Cert.Proof

open Idealize.ShloMosaic Idealize.SL.Sem

theorem frame_ideal : Cert.quiescent_KernelIdeal := fun m ρ _ => Cert.KernelIdeal.Hand.run_frame (F := Ideal) m ρ

/-! ## The kernel at bits: the same text -/

set_option maxRecDepth 100000 in
theorem defs₀_same : Cert.Kernel.defs₀ (F := Bits) = Cert.KernelIdeal.defs₀ (F := Bits) := by
  unfold Cert.Kernel.defs₀ Cert.KernelIdeal.defs₀
  refine congrArg Defs.onTc ?_
  funext l a
  rcases l with ⟨_ | n, h⟩
  · rfl
  · exact absurd h (Nat.not_lt.2 (Nat.le_add_left _ _))

/-- The two programs have the same bodies. -/
theorem defs_same : Cert.Kernel.defs (F := Bits) = Cert.KernelIdeal.defs (F := Bits) :=
  congrArg (Pipeline.defs Cert.KernelIdeal.pcfgs) defs₀_same

set_option maxRecDepth 100000 in
theorem frame_kernel : Cert.quiescent_Kernel := fun m ρ _ => by
  rw [defs_same]
  exact Cert.KernelIdeal.Hand.run_frame (F := Bits) m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Online.lean ====
/- The mathematics of the reference's running softmax: taken in two chunks with a running maximum, the weighted mean is the
   one over the whole row. It holds at every extended real, infinities included. -/
module

public import Idealize.ShloMosaic.Lib.Pointwise

@[expose] public section

noncomputable section

namespace Cert.Attention

open Idealize.ShloMosaic

/-! ## One factor -/

theorem exp_nonneg (x : EReal) : 0 ≤ Ideal.exp x := by
  induction x with
  | bot => exact le_refl _
  | top => exact le_top
  | coe r => exact EReal.coe_nonneg.2 (Real.exp_pos r).le

/-- The factor by which a later maximum scales what an earlier one gave is finite. -/
theorem exp_sub_ne_top {a b : EReal} (h : a ≤ b) : Ideal.exp (a - b) ≠ ⊤ := by
  induction b with
  | bot => rw [le_bot_iff.1 h]; exact EReal.zero_ne_top
  | top => rw [EReal.sub_top]; exact EReal.zero_ne_top
  | coe r =>
    induction a with
    | bot => rw [EReal.bot_sub]; exact EReal.zero_ne_top
    | top => exact absurd h (not_le.2 (EReal.coe_lt_top r))
    | coe t => rw [← EReal.coe_sub]; exact EReal.coe_ne_top _

/-- Scaling a score's exponential from one maximum to a later one. -/
theorem exp_rescale {s a b : EReal} (hs : s ≤ a) (hab : a ≤ b) : Ideal.exp (s - a) * Ideal.exp (a - b) = Ideal.exp (s - b) := by
  induction b with
  | bot => rw [le_bot_iff.1 hab, le_bot_iff.1 (hs.trans hab), EReal.bot_sub]; exact mul_zero _
  | top => rw [EReal.sub_top, EReal.sub_top]; exact mul_zero _
  | coe r =>
    induction a with
    | bot => rw [le_bot_iff.1 hs, EReal.bot_sub, EReal.bot_sub]; exact mul_zero _
    | top => exact absurd hab (not_le.2 (EReal.coe_lt_top r))
    | coe t =>
      induction s with
      | bot => rw [EReal.bot_sub, EReal.bot_sub]; exact zero_mul _
      | top => exact absurd hs (not_le.2 (EReal.coe_lt_top t))
      | coe u =>
        rw [← EReal.coe_sub, ← EReal.coe_sub, ← EReal.coe_sub]
        show ((Real.exp (u - t) : ℝ) : EReal) * ((Real.exp (t - r) : ℝ) : EReal) = ((Real.exp (u - r) : ℝ) : EReal)
        rw [← EReal.coe_mul, ← Real.exp_add, sub_add_sub_cancel]

/-- A finite factor that is not negative goes through a sum, whatever the terms. -/
theorem sum_mul_finite {n : ℕ} (f : Fin n → EReal) {c : EReal} (h0 : 0 ≤ c) (ht : c ≠ ⊤) : (∑ j, f j) * c = ∑ j, f j * c := by
  refine Finset.induction_on (motive := fun S => (∑ j ∈ S, f j) * c = ∑ j ∈ S, f j * c) Finset.univ ?_ fun a S ha ih => ?_
  · rw [Finset.sum_empty, Finset.sum_empty, zero_mul]
  · rw [Finset.sum_insert ha, Finset.sum_insert ha, EReal.right_distrib_of_nonneg_of_ne_top h0 ht, ih]

/-! ## The greatest score -/

/-- The greatest of a row of scores. -/
def top {n : ℕ} (s : Fin n → EReal) : EReal := Finset.univ.fold max ⊥ s

theorem le_top {n : ℕ} (s : Fin n → EReal) (j : Fin n) : s j ≤ top s := (Finset.fold_max_le (top s)).1 (le_refl _) |>.2 j (Finset.mem_univ j)

theorem top_le {n : ℕ} (s : Fin n → EReal) (b : EReal) (h : ∀ j, s j ≤ b) : top s ≤ b := (Finset.fold_max_le b).2 ⟨bot_le, fun j _ => h j⟩

/-! ## Two chunks -/

/-- The first and the second chunk of a row. -/
def lo (j : Fin 1024) : Fin 2048 := ⟨j.val, by omega⟩
def hi (j : Fin 1024) : Fin 2048 := ⟨1024 + j.val, by omega⟩

theorem sum_halves (f : Fin 2048 → EReal) : ∑ j, f j = ∑ j, f (lo j) + ∑ j, f (hi j) := by
  have h := Fin.sum_univ_two_halves 1024 1024 rfl f
  exact h

theorem top_halves (s : Fin 2048 → EReal) : max (top fun j => s (lo j)) (top fun j => s (hi j)) = top s := by
  refine le_antisymm (max_le (top_le _ _ fun j => le_top s _) (top_le _ _ fun j => le_top s _)) (top_le _ _ fun j => ?_)
  by_cases h : j.val < 1024
  · exact le_trans (le_top (fun j => s (lo j)) ⟨j.val, h⟩) (le_max_left _ _)
  · refine le_trans (le_of_eq ?_) (le_trans (le_top (fun j => s (hi j)) ⟨j.val - 1024, by omega⟩) (le_max_right _ _))
    refine congrArg s (Fin.ext ?_)
    show j.val = 1024 + (j.val - 1024)
    omega

/-- The weighted mean of `v` under the softmax of the scores `s`. -/
def mean (s v : Fin 2048 → EReal) : EReal :=
  Ideal.div (∑ j, Ideal.exp (s j - top s) * v j) (∑ j, Ideal.exp (s j - top s))

/-- A chunk's greatest score, from a running one, -/
def runMax (m : EReal) (s : Fin 1024 → EReal) : EReal := max m (top s)
/-- the running denominator after a chunk, -/
def runDen (m l : EReal) (s : Fin 1024 → EReal) : EReal :=
  l * Ideal.exp (m - runMax m s) + ∑ j, Ideal.exp (s j - runMax m s)
/-- and the running numerator. -/
def runNum (m o : EReal) (s v : Fin 1024 → EReal) : EReal :=
  o * Ideal.exp (m - runMax m s) + ∑ j, v j * Ideal.exp (s j - runMax m s)

/-- The weighted mean as the reference takes it, chunk by chunk. -/
def online (s v : Fin 2048 → EReal) : EReal :=
  Ideal.div
    (runNum (runMax ⊥ fun j => s (lo j)) (runNum ⊥ 0 (fun j => s (lo j)) fun j => v (lo j)) (fun j => s (hi j)) fun j => v (hi j))
    (runDen (runMax ⊥ fun j => s (lo j)) (runDen ⊥ 0 fun j => s (lo j)) fun j => s (hi j))

/-- The two are one. -/
theorem online_eq (s v : Fin 2048 → EReal) : online s v = mean s v := by
  have h1 : runMax ⊥ (fun j => s (lo j)) = top fun j => s (lo j) := bot_sup_eq _
  have h2 : runMax (top fun j => s (lo j)) (fun j => s (hi j)) = top s := top_halves s
  have hle : (top fun j => s (lo j)) ≤ top s := (le_max_left _ _).trans (le_of_eq (top_halves s))
  unfold online mean runNum runDen
  rw [h1, h2, zero_mul, zero_add, zero_add, sum_halves (fun j => Ideal.exp (s j - top s) * v j), sum_halves fun j => Ideal.exp (s j - top s),
    sum_mul_finite _ (exp_nonneg _) (exp_sub_ne_top hle), sum_mul_finite _ (exp_nonneg _) (exp_sub_ne_top hle)]
  refine congrArg₂ Ideal.div (congrArg₂ (· + ·) ?_ ?_) (congrArg (· + _) ?_)
  · refine Finset.sum_congr rfl fun j _ => ?_
    rw [mul_assoc, exp_rescale (le_top (fun j => s (lo j)) j) hle, mul_comm]
  · exact Finset.sum_congr rfl fun j _ => mul_comm _ _
  · exact Finset.sum_congr rfl fun j _ => exp_rescale (le_top (fun j => s (lo j)) j) hle

end Cert.Attention

end
-- ==== Proof.Attn.lean ====
/- One query's attention over the extended reals: what both programs compute for a row and a head. -/
module

public import proofs.«01_k».proof.Proof.Online

@[expose] public section

noncomputable section

namespace Cert.Attention

open Idealize.ShloMosaic

/-- The scale of the scores, the number that both programs' word denotes. -/
def scale : EReal := Ideal.ofBits .f32 0x3DB504F3#32

/-- The scaled scores of a query against the keys. -/
def score (q : Fin 128 → EReal) (k : Fin 2048 → Fin 128 → EReal) : Fin 2048 → EReal := fun j => (∑ d, q d * k j d) * scale

/-- One component of a query's attention: the mean of that component of the values, weighted by the softmax of the scores. -/
def attn (q : Fin 128 → EReal) (k : Fin 2048 → Fin 128 → EReal) (v : Fin 2048 → EReal) : EReal := mean (score q k) v

/-- The f32 word of −∞ denotes the least extended real. -/
theorem ofBits_neg_inf : Ideal.ofBits .f32 0xFF800000#32 = ⊥ := by
  show Ideal.ieee 8 23 (0xFF800000#32) = ⊥
  unfold Ideal.ieee
  rw [if_pos (by decide), if_pos (by decide), if_pos (by decide)]

end Cert.Attention

end
-- ==== Proof.HeadValue.lean ====
/- What a device computes for a group of rows, read at an index: each piece of the body's values at one element. -/
module

public import proofs.«01_k».proof.Proof.Attn
public import proofs.«01_k».proof.Proof.Body
public import Idealize.ShloMosaic.Lib.Pointwise

@[expose] public section

set_option maxRecDepth 16384

noncomputable section

namespace Cert.KernelIdeal.Hand

open Idealize.ShloMosaic Idealize.SL.Sem Cert.KernelIdeal Cert.KernelIdeal.Gen Cert.Attention

/-- Column `d` of head `h`, of the eight heads side by side. -/
def col (h : Fin 8) (d : Fin 128) : Fin 1024 := ⟨128 * h.val + d.val, by omega⟩

theorem qOf_apply (wq : FVec Ideal S1024x1024 .bf16) (xs : Vec Ideal S128x1024 .f32) (a : Fin 128) (n : Fin 1024) :
    qOf wq xs (ix2 a n) = ∑ e : Fin 1024, xs (ix2 a e) * wq (ix2 e n) := by
  pointwise [qOf]

theorem slq_apply (q : FVec Ideal S128x1024 .bf16) (h : Fin 8) (a d : Fin 128) :
    extractStridedSlice S128x128 ![0, 128 * h.val] q (slq h) (ix2 a d) = q (ix2 a (col h d)) := by
  pointwise [col]

theorem slk_apply (k : FVec Ideal S2048x1024 .bf16) (h : Fin 8) (j : Fin 2048) (d : Fin 128) :
    extractStridedSlice S2048x128 ![0, 128 * h.val] k (slk h) (ix2 j d) = k (ix2 j (col h d)) := by
  pointwise [col]

theorem dotScaled_apply (q : FVec Ideal S128x128 .bf16) (k : FVec Ideal S2048x128 .bf16) (a : Fin 128) (j : Fin 2048) :
    mulf (matmul dot_S128x128_S2048x128_S128x2048_1_1_0_0_n_n none q k (constant S128x2048 .f32 0x00000000#32))
        (broadcast S128x2048 (Scalar.ofBits .f32 0x3DB504F3#32)) (ix2 a j)
      = (∑ d : Fin 128, q (ix2 a d) * k (ix2 j d)) * scale := by
  pointwise [scale]

theorem scores_apply (q : FVec Ideal S128x1024 .bf16) (k : FVec Ideal S2048x1024 .bf16) (h : Fin 8) (a : Fin 128) (j : Fin 2048) :
    scores q k h (ix2 a j) = score (fun d => q (ix2 a (col h d))) (fun j d => k (ix2 j (col h d))) j := by
  rw [scores, dotScaled_apply]
  simp only [slq_apply, slk_apply]
  rfl

/-- A row's greatest score, as a fold over the row. -/
theorem rowTop_apply (s : FVec Ideal S128x2048 .f32) (a : Fin 128) :
    multiReduction .maximumf [1] S128 s 0xFF800000#32 reduces_S128x2048_S128 (.inl rfl) rfl (ix1 a) = top fun j : Fin 2048 => s (ix2 a j) := by
  refine (multiReduction_maximumf_eq_fold _ _ _ _ _ _).trans ?_
  rw [Shape.Reduces.fold_fiber_r2_a1,
    show (FloatOps.ofBits .f32 0xFF800000#32 : Ideal .f32) = ⊥ from ofBits_neg_inf]
  exact Finset.fold_congr fun j _ => rfl

theorem exp_less (s : FVec Ideal S128x2048 .f32) (t : FVec Ideal S128 .f32) (a : Fin 128) (j : Fin 2048) :
    exp (subf s (broadcastTo S128x2048 (shapeCast S128x1 t shapeCasts_S128_S128x1) broadcasts_S128x1_S128x2048)) (ix2 a j)
      = Ideal.exp (s (ix2 a j) - t (ix1 a)) := by
  pointwise

theorem exps_apply (s : FVec Ideal S128x2048 .f32) (a : Fin 128) (j : Fin 2048) :
    exps s (ix2 a j) = Ideal.exp (s (ix2 a j) - top fun j => s (ix2 a j)) := by
  rw [exps, exp_less, rowTop_apply]

theorem meanOf_apply (p : FVec Ideal S128x2048 .f32) (v : FVec Ideal S2048x128 .bf16) (a d : Fin 128) :
    meanOf p v (ix2 a d) = Ideal.div (∑ j : Fin 2048, p (ix2 a j) * v (ix2 j d)) (∑ j : Fin 2048, p (ix2 a j)) := by
  pointwise [meanOf]

theorem headOf_apply (q : FVec Ideal S128x1024 .bf16) (k v : FVec Ideal S2048x1024 .bf16) (h : Fin 8) (a d : Fin 128) :
    headOf q k v h (ix2 a d)
      = attn (fun d => q (ix2 a (col h d))) (fun j d => k (ix2 j (col h d))) fun j => v (ix2 j (col h d)) := by
  rw [headOf, meanOf_apply]
  simp only [exps_apply, scores_apply, slk_apply]
  rfl

theorem pick (f : Fin 8 → FVec Ideal S128x128 .f32) (a : Fin 128) {h h' : Fin 8} {d d' : Fin 128} (hh : h.val = h'.val) (hd : d.val = d'.val) :
    f h (ix2 a d) = f h' (ix2 a d') := by
  rw [Fin.ext hh, Fin.ext hd]

theorem headsOf_apply (q : FVec Ideal S128x1024 .bf16) (k v : FVec Ideal S2048x1024 .bf16) (a : Fin 128) (n : Fin 1024) :
    headsOf q k v (ix2 a n) = headOf q k v (⟨n.val / 128, by omega⟩ : Fin 8) (ix2 a (⟨n.val % 128, by omega⟩ : Fin 128)) := by
  unfold headsOf
  generalize headOf q k v = f
  pointwise
  split_ifs <;> exact pick f a (by simp; omega) (by simp; omega)

theorem projOf_apply (wo : FVec Ideal S1024x1024 .bf16) (o : FVec Ideal S128x1024 .f32) (a : Fin 128) (n : Fin 1024) :
    projOf wo o (ix2 a n) = ∑ c : Fin 1024, o (ix2 a c) * wo (ix2 c n) := by
  pointwise [projOf]

theorem blocks_apply (p : FVec Ideal S128x1024 .bf16) (b : Fin 8) (a : Fin 16) (n : Fin 1024) :
    shapeCast S1x8x16x1024 (shapeCast S8x16x1024 p shapeCasts_S128x1024_S8x16x1024) shapeCasts_S8x16x1024_S1x8x16x1024 (ix4 (0 : Fin 1) b a n)
      = p (ix2 (⟨b.val * 16 + a.val, by omega⟩ : Fin 128) n) := by
  pointwise

theorem k0_pay6_apply (k : Vec Ideal S1x2048x8x128 .f32) (j : Fin 2048) (h : Fin 8) (d : Fin 128) :
    k0_pay6 k (ix2 j (col h d)) = k (ix4 (0 : Fin 1) j h d) := by
  pointwise [k0_pay6, col]

theorem k0_pay7_apply (k : Vec Ideal S1x2048x8x128 .f32) (j : Fin 2048) (h : Fin 8) (d : Fin 128) :
    k0_pay7 k (ix2 j (col h d)) = k (ix4 (0 : Fin 1) j h d) := by
  pointwise [k0_pay7, col]

theorem k0_pay4_apply (w : Vec Ideal S1024x1024 .f32) (i : S1024x1024.Idx) : k0_pay4 w i = w i := by
  unfold k0_pay4; rw [shapeCast_self]; rfl
theorem k0_pay5_apply (w : Vec Ideal S1024x1024 .f32) (i : S1024x1024.Idx) : k0_pay5 w i = w i := by
  unfold k0_pay5; rw [shapeCast_self]; rfl

/-- A device's partial result at a row of a group: the attention of its eight heads, projected. -/
theorem partOf_apply (wq wo : Vec Ideal S1024x1024 .f32) (k v : Vec Ideal S1x2048x8x128 .f32) (xs : Vec Ideal S128x1024 .f32)
    (b : Fin 8) (a : Fin 16) (n : Fin 1024) :
    partOf (k0_pay4 wq) (k0_pay5 wo) (k0_pay6 k) (k0_pay7 v) xs (ix4 (0 : Fin 1) b a n)
      = ∑ c : Fin 1024, attn
          (fun d => ∑ e : Fin 1024, xs (ix2 (⟨b.val * 16 + a.val, by omega⟩ : Fin 128) e) * wq (ix2 e (col (⟨c.val / 128, by omega⟩ : Fin 8) d)))
          (fun j d => k (ix4 (0 : Fin 1) j (⟨c.val / 128, by omega⟩ : Fin 8) d))
          (fun j => v (ix4 (0 : Fin 1) j (⟨c.val / 128, by omega⟩ : Fin 8) (⟨c.val % 128, by omega⟩ : Fin 128))) * wo (ix2 c n) := by
  rw [partOf, blocks_apply, projOf_apply]
  refine Finset.sum_congr rfl fun c _ => ?_
  rw [headsOf_apply, headOf_apply, k0_pay5_apply]
  simp only [qOf_apply, k0_pay4_apply, k0_pay6_apply, k0_pay7_apply]

theorem redOf_apply (b : Vec Ideal S32x16x1024 .bf16) (a : Fin 16) (n : Fin 1024) :
    redOf b (ix2 a n) = ∑ o : Fin 32, b (ix3 o a n) := by
  pointwise [redOf]

theorem redSent_apply (b : Vec Ideal S32x16x1024 .bf16) (a : Fin 16) (n : Fin 1024) :
    redSent b (ix2 a n) = ∑ o : Fin 32, b (ix3 o a n) := by
  rw [redSent, shapeCast_self]
  exact redOf_apply b a n

theorem gathered_apply (b : Vec Ideal S1x16x1024 .bf16) (a : Fin 16) (n : Fin 1024) :
    gathered b (ix3 (0 : Fin 1) a n) = b (ix3 (0 : Fin 1) a n) := by
  pointwise [gathered]

theorem k0_pay80_apply (s : FVec Ideal S16x1024 .f32) (a : Fin 16) (n : Fin 1024) :
    k0_pay80 s (ix3 (0 : Fin 1) a n) = s (ix2 a n) := by
  pointwise [k0_pay80]

end Cert.KernelIdeal.Hand

end
-- ==== Proof.KernelValue.lean ====
/- What the run leaves on every device, read at an index: the devices' partial results of a row, added up. -/
module

public import proofs.«01_k».proof.Proof.HeadValue
public import proofs.«01_k».proof.Proof.Run
public import Idealize.ShloMosaic.Lib.Pipeline.ValueKit.Geometry

@[expose] public section

set_option maxRecDepth 16384

noncomputable section

namespace Cert.KernelIdeal.Hand

open Idealize.ShloMosaic Idealize.ShloMosaic.TcCoe Idealize.SL.Sem Cert.KernelIdeal Cert.KernelIdeal.Gen Cert.Attention

/-! ## The arguments, whole -/

section Arguments

variable {F : FTy → Type} [FloatOps F] (m : (ℓ : Loc nD τ sig) → Buf (Elt F) ℓ)

theorem xAt_eq (c : Dev nD) : xAt m c = m ((c : Thread nD τ).loc main_arg0) :=
  funext fun _ => congrArg (m ((c : Thread nD τ).loc main_arg0)) (funext fun a =>
    Fin.ext (Pipeline.Window.rect_emb_val_of_index_zero win0_0 (0 : Fin 1) _ (by fin_cases a <;> rfl) _))
theorem wqAt_eq (c : Dev nD) : wqAt m c = m ((c : Thread nD τ).loc main_arg1) :=
  funext fun _ => congrArg (m ((c : Thread nD τ).loc main_arg1)) (funext fun a =>
    Fin.ext (Pipeline.Window.rect_emb_val_of_index_zero win0_1 (0 : Fin 1) _ (by fin_cases a <;> rfl) _))
theorem woAt_eq (c : Dev nD) : woAt m c = m ((c : Thread nD τ).loc main_arg4) :=
  funext fun _ => congrArg (m ((c : Thread nD τ).loc main_arg4)) (funext fun a =>
    Fin.ext (Pipeline.Window.rect_emb_val_of_index_zero win0_2 (0 : Fin 1) _ (by fin_cases a <;> rfl) _))
theorem kAt_eq (c : Dev nD) : kAt m c = m ((c : Thread nD τ).loc main_arg2) :=
  funext fun _ => congrArg (m ((c : Thread nD τ).loc main_arg2)) (funext fun a =>
    Fin.ext (Pipeline.Window.rect_emb_val_of_index_zero win0_3 (0 : Fin 1) _ (by fin_cases a <;> rfl) _))
theorem vAt_eq (c : Dev nD) : vAt m c = m ((c : Thread nD τ).loc main_arg3) :=
  funext fun _ => congrArg (m ((c : Thread nD τ).loc main_arg3)) (funext fun a =>
    Fin.ext (Pipeline.Window.rect_emb_val_of_index_zero win0_4 (0 : Fin 1) _ (by fin_cases a <;> rfl) _))

/-! ## The result's array -/

variable (ρ : Dev nD → PrngReg)

/-- The result's array ends with what the body left in its buffer: the one point writes all of it back. -/
theorem final_out (c : Dev nD) : finalA m ρ c 5 = outAt m c :=
  (dats m ρ 0 c).arrAt_eq_of_after_last (5 : Fin 6) t0_0 (by decide +kernel) (outAt m c) (fun _ => rfl)

end Arguments

/-! ## The rows -/

theorem rowsOf_apply (c : Dev nD) (x : Vec Ideal S1x512x1024 .f32) (g : Fin 4) (p : Fin 128) (e : Fin 1024) (r : Fin 512)
    (hr : ((c.val + 1 + 8 * g.val) % 32 * 16 + p.val) % 512 = r.val) :
    rowsOf c x g (ix2 p e) = x (ix3 (0 : Fin 1) r e) := by
  have h0 : rowOff c g 0 = (c.val + 1 + 8 * g.val) % 32 * 16 := congrFun (rowOff_eq c g) 0
  have h1 : rowOff c g 1 = 0 := congrFun (rowOff_eq c g) 1
  refine congrArg x ?_
  have e0 : (rowOff c g 0 + 1 * p.val) % 512 = r.val := by rw [h0, one_mul]; exact hr
  have e1 : rowOff c g 1 + 1 * e.val = e.val := by omega
  exact congrArg₂ (fun a b => ix3 (0 : Fin 1) a b) (Fin.ext e0) (Fin.ext e1)

variable (m : (ℓ : Loc nD τ sig) → Buf (Elt Ideal) ℓ)

/-- A device's partial result at row `r` and column `n`: the attention of its eight heads, projected. -/
def portion (c : Dev nD) (r : Fin 512) (n : Fin 1024) : EReal :=
  ∑ k : Fin 1024, attn
    (fun d => ∑ e : Fin 1024, xAt m c (ix3 (0 : Fin 1) r e) * wqAt m c (ix2 e (col (⟨k.val / 128, by omega⟩ : Fin 8) d)))
    (fun j d => kAt m c (ix4 (0 : Fin 1) j (⟨k.val / 128, by omega⟩ : Fin 8) d))
    (fun j => vAt m c (ix4 (0 : Fin 1) j (⟨k.val / 128, by omega⟩ : Fin 8) (⟨k.val % 128, by omega⟩ : Fin 128))) * woAt m c (ix2 k n)

/-- Chunk `i` of device `c` holds the rows that the device `i + 1` places on reduces. -/
theorem chunkAt_apply (c : Dev nD) (i : Fin 32) (a : Fin 16) (n : Fin 1024) (r : Fin 512) (hr : (c.val + 1 + i.val) % 32 * 16 + a.val = r.val) :
    chunkAt m c i (ix2 a n) = portion m c r n := by
  show stagedAt m c ⟨i.val / 8, _⟩ (ix4 (0 : Fin 1) (⟨i.val % 8, _⟩ : Fin 8) a n) = _
  rw [stagedAt, partOf_apply]
  have hx : ∀ e : Fin 1024, rowsOf c (xAt m c) ⟨i.val / 8, by omega⟩ (ix2 (⟨i.val % 8 * 16 + a.val, by omega⟩ : Fin 128) e)
      = xAt m c (ix3 (0 : Fin 1) r e) := fun e => rowsOf_apply c _ _ _ e r (by dsimp only; omega)
  simp only [hx]
  rfl

/-! ## The sums -/

theorem back_back (s : Dev nD) (o : Fin 32) : back s (back s o) = o :=
  Fin.ext (by show (s.val + 32 - (s.val + 32 - o.val) % 32) % 32 = o.val; have := s.isLt; have : nD = 32 := rfl; omega)

/-- The devices, each found the places back that it is. -/
def aroundEquiv (s : Dev nD) : Fin 32 ≃ Dev nD := ⟨back s, back s, back_back s, back_back s⟩

theorem partsAt_apply (s : Dev nD) (o : Fin 32) (a : Fin 16) (n : Fin 1024) (r : Fin 512) (hr : s.val * 16 + a.val = r.val) :
    partsAt m s (ix3 o a n) = portion m (back s o) r n := by
  refine chunkAt_apply m (back s o) (chOf o) a n r ?_
  have ho : (chOf o).val = (o.val + 31) % 32 := by
    show (o - 1 : Fin 32).val = _
    rw [Fin.sub_def]; show (32 - 1 + o.val) % 32 = _; omega
  rw [ho]
  show ((s.val + 32 - o.val) % 32 + 1 + (o.val + 31) % 32) % 32 * 16 + a.val = r.val
  have := s.isLt; have : nD = 32 := rfl
  omega

theorem parts_sum (s : Dev nD) (a : Fin 16) (n : Fin 1024) (r : Fin 512) (hr : s.val * 16 + a.val = r.val) :
    ∑ o : Fin 32, partsAt m s (ix3 o a n) = ∑ c : Dev nD, portion m c r n :=
  Fintype.sum_equiv (aroundEquiv s) _ _ fun o => partsAt_apply m s o a n r hr

/-- The result on any device, at row `r` and column `n`. -/
theorem outAt_apply (c : Dev nD) (r : Fin 512) (n : Fin 1024) : outAt m c (ix3 (0 : Fin 1) r n) = ∑ c' : Dev nD, portion m c' r n := by
  have hr : (⟨r.val / 16, by omega⟩ : Fin 32).val * 16 + (⟨r.val % 16, by omega⟩ : Fin 16).val = r.val := by dsimp only; omega
  show (if (⟨r.val / 16, _⟩ : Fin 32) = c then k0_pay80 (sumAt m c) (ix3 (0 : Fin 1) (⟨r.val % 16, _⟩ : Fin 16) n)
    else gathered (fun z => sentAt m ⟨r.val / 16, _⟩ (ix2 (z 1 : Fin 16) (z 2 : Fin 1024))) (ix3 (0 : Fin 1) (⟨r.val % 16, _⟩ : Fin 16) n)) = _
  split
  · next h =>
    subst h
    rw [k0_pay80_apply, sumAt, redOf_apply]
    exact parts_sum m ⟨r.val / 16, _⟩ _ n r hr
  · rw [gathered_apply]
    refine (redSent_apply (partsAt m ⟨r.val / 16, _⟩) (⟨r.val % 16, _⟩ : Fin 16) n).trans ?_
    exact parts_sum m ⟨r.val / 16, _⟩ _ n r hr

end Cert.KernelIdeal.Hand

end
-- ==== Proof.RefValue.lean ====
/- What the reference computes, read at an index: its operations grouped by the lines of its text, and each group at one
   element. -/
module

public import proofs.«01_k».proof.Proof.Attn
public import proofs.«01_k».proof.Proof.Gen.ReferenceIdeal.Run

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.Attention

/-! ## The lines -/

/-- The queries. -/
def queries (x : FVec Ideal S1x512x1024 .f32) (wq : FVec Ideal S1024x32768 .f32) : FVec Ideal S1x512x256x128 .f32 :=
  shapeCast _ (Host.dotGeneral dot_S1x512x1024_S1024x32768_S1x512x32768_2_0_01_1_n_n none x wq) shapeCasts_S1x512x32768_S1x512x256x128

/-- The first and the second half of the keys or values. -/
def half0 (k : FVec Ideal S1x2048x256x128 .f32) : FVec Ideal S1x1024x256x128 .f32 :=
  extractStridedSlice S1x1024x256x128 ![0, 0, 0, 0] k slices_S1x2048x256x128_S1x1024x256x128_0_0_0_0
def half1 (k : FVec Ideal S1x2048x256x128 .f32) : FVec Ideal S1x1024x256x128 .f32 :=
  extractStridedSlice S1x1024x256x128 ![0, 1024, 0, 0] k slices_S1x2048x256x128_S1x1024x256x128_0_1024_0_0

/-- A chunk's scaled scores. -/
def scored (q : FVec Ideal S1x512x256x128 .f32) (k : FVec Ideal S1x1024x256x128 .f32) : FVec Ideal S1x256x512x1024 .f32 :=
  mulf (Host.dotGeneral dot_S1x512x256x128_S1x1024x256x128_S1x256x512x1024_3_3_1_1_02_02 none q k)
    (broadcastInDim S1x256x512x1024 ![] bcast_S_S1x256x512x1024 (constant S_ .f32 0x3DB504F3#32))

/-- The running maximum after a chunk. -/
def newMax (m : FVec Ideal S1x256x512x1 .f32) (s : FVec Ideal S1x256x512x1024 .f32) : FVec Ideal S1x256x512x1 .f32 :=
  maximumf m (broadcastInDim S1x256x512x1 ![0, 1, 2] bcast_S1x256x512_S1x256x512x1_0_1_2
    (Host.reduce FloatOps.maximumf s (constant S_ .f32 0xFF800000#32) reducesTo_S1x256x512x1024_S1x256x512_d3 h_S_))

/-- The factor on what came before. -/
def factor (m m' : FVec Ideal S1x256x512x1 .f32) : FVec Ideal S1x256x512x1 .f32 := Host.exp (subf m m')

/-- A chunk's weights. -/
def weights (s : FVec Ideal S1x256x512x1024 .f32) (m' : FVec Ideal S1x256x512x1 .f32) : FVec Ideal S1x256x512x1024 .f32 :=
  Host.exp (subf s (broadcastInDim S1x256x512x1024 ![0, 1, 2, 3] bcast_S1x256x512x1_S1x256x512x1024_0_1_2_3 m'))

/-- The running denominator after a chunk. -/
def newDen (l a : FVec Ideal S1x256x512x1 .f32) (p : FVec Ideal S1x256x512x1024 .f32) : FVec Ideal S1x256x512x1 .f32 :=
  addf (mulf l a) (broadcastInDim S1x256x512x1 ![0, 1, 2] bcast_S1x256x512_S1x256x512x1_0_1_2
    (Host.reduceAdd p (constant S_ .f32 0x00000000#32) reducesTo_S1x256x512x1024_S1x256x512_d3 h_S_))

/-- A column of rows and heads, spread over the components. -/
def spread (a : FVec Ideal S1x256x512x1 .f32) : FVec Ideal S1x512x256x128 .f32 :=
  broadcastInDim S1x512x256x128 ![0, 1, 2, 3] bcast_S1x512x256x1_S1x512x256x128_0_1_2_3
    (transpose S1x512x256x1 [0, 2, 1, 3] a transposes_S1x256x512x1_S1x512x256x1_0_2_1_3)

/-- The running numerator after a chunk. -/
def newNum (o : FVec Ideal S1x512x256x128 .f32) (a : FVec Ideal S1x256x512x1 .f32) (v : FVec Ideal S1x1024x256x128 .f32)
    (p : FVec Ideal S1x256x512x1024 .f32) : FVec Ideal S1x512x256x128 .f32 :=
  addf (mulf o (spread a)) (transpose S1x512x256x128 [0, 3, 1, 2]
    (Host.dotGeneral dot_S1x1024x256x128_S1x256x512x1024_S1x256x128x512_1_3_3_2_02_01 none v p) transposes_S1x256x128x512_S1x512x256x128_0_3_1_2)

def m0 : FVec Ideal S1x256x512x1 .f32 := broadcastInDim S1x256x512x1 ![] bcast_S_S1x256x512x1 (constant S_ .f32 0xFF800000#32)
def l0 : FVec Ideal S1x256x512x1 .f32 := broadcastInDim S1x256x512x1 ![] bcast_S_S1x256x512x1 (constant S_ .f32 0x00000000#32)
def o0 : FVec Ideal S1x512x256x128 .f32 := broadcastInDim S1x512x256x128 ![] bcast_S_S1x512x256x128 (constant S_ .f32 0x00000000#32)

def m1 (s0 : FVec Ideal S1x256x512x1024 .f32) : FVec Ideal S1x256x512x1 .f32 := newMax m0 s0
def m2 (s0 s1 : FVec Ideal S1x256x512x1024 .f32) : FVec Ideal S1x256x512x1 .f32 := newMax (m1 s0) s1
def den (s0 s1 : FVec Ideal S1x256x512x1024 .f32) : FVec Ideal S1x256x512x1 .f32 :=
  newDen (newDen l0 (factor m0 (m1 s0)) (weights s0 (m1 s0))) (factor (m1 s0) (m2 s0 s1)) (weights s1 (m2 s0 s1))
def num (s0 s1 : FVec Ideal S1x256x512x1024 .f32) (v0 v1 : FVec Ideal S1x1024x256x128 .f32) : FVec Ideal S1x512x256x128 .f32 :=
  newNum (newNum o0 (factor m0 (m1 s0)) v0 (weights s0 (m1 s0))) (factor (m1 s0) (m2 s0 s1)) v1 (weights s1 (m2 s0 s1))

/-- The attention of every head. -/
def heads (x : FVec Ideal S1x512x1024 .f32) (wq : FVec Ideal S1024x32768 .f32) (k v : FVec Ideal S1x2048x256x128 .f32) :
    FVec Ideal S1x512x256x128 .f32 :=
  Host.divf (num (scored (queries x wq) (half0 k)) (scored (queries x wq) (half1 k)) (half0 v) (half1 v))
    (spread (den (scored (queries x wq) (half0 k)) (scored (queries x wq) (half1 k))))

/-- The reference's result. -/
def result (x : FVec Ideal S1x512x1024 .f32) (wq : FVec Ideal S1024x32768 .f32) (k v : FVec Ideal S1x2048x256x128 .f32)
    (wo : FVec Ideal S32768x1024 .f32) : FVec Ideal S1x512x1024 .f32 :=
  Host.dotGeneral dot_S1x512x32768_S32768x1024_S1x512x1024_2_0_01_1_n_n none (shapeCast _ (heads x wq k v) shapeCasts_S1x512x256x128_S1x512x32768) wo

theorem res_eq (m : (ℓ : Loc nD τ sig) → Buf (Elt Ideal) ℓ) (c : Dev nD) :
    Value.res_main_v55 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## At an index -/

theorem queries_apply (x : FVec Ideal S1x512x1024 .f32) (wq : FVec Ideal S1024x32768 .f32) (r : Fin 512) (h : Fin 256) (d : Fin 128) :
    queries x wq (ix4 (0 : Fin 1) r h d)
      = ∑ e : Fin 1024, x (ix3 (0 : Fin 1) r e) * wq (ix2 e (⟨h.val * 128 + d.val, by omega⟩ : Fin 32768)) := by
  pointwise [queries]

theorem half0_apply (k : FVec Ideal S1x2048x256x128 .f32) (j : Fin 1024) (h : Fin 256) (d : Fin 128) :
    half0 k (ix4 (0 : Fin 1) j h d) = k (ix4 (0 : Fin 1) (lo j) h d) := by
  pointwise [half0, lo]
theorem half1_apply (k : FVec Ideal S1x2048x256x128 .f32) (j : Fin 1024) (h : Fin 256) (d : Fin 128) :
    half1 k (ix4 (0 : Fin 1) j h d) = k (ix4 (0 : Fin 1) (hi j) h d) := by
  pointwise [half1, hi]

theorem scored_apply (q : FVec Ideal S1x512x256x128 .f32) (k : FVec Ideal S1x1024x256x128 .f32) (h : Fin 256) (r : Fin 512) (j : Fin 1024) :
    scored q k (ix4 (0 : Fin 1) h r j) = (∑ d : Fin 128, q (ix4 (0 : Fin 1) r h d) * k (ix4 (0 : Fin 1) j h d)) * scale := by
  pointwise [scored, scale]

/-- A chunk's greatest score, as a fold over the chunk. -/
theorem peak_apply (s : FVec Ideal S1x256x512x1024 .f32) (h : Fin 256) (r : Fin 512) :
    Host.reduce FloatOps.maximumf s (constant S_ .f32 0xFF800000#32) reducesTo_S1x256x512x1024_S1x256x512_d3 h_S_ (ix3 (0 : Fin 1) h r)
      = top fun j : Fin 1024 => s (ix4 (0 : Fin 1) h r j) := by
  rw [Host.reduce_eq_fold, Shape.ReducesTo.fold_fiber_r4_a3,
    show (constant S_ .f32 0xFF800000#32 (Shape.Idx.first h_S_) : Ideal .f32) = ⊥ from ofBits_neg_inf]
  exact Finset.fold_congr fun j _ => rfl

theorem max_spread (m : FVec Ideal S1x256x512x1 .f32) (t : FVec Ideal S1x256x512 .f32) (h : Fin 256) (r : Fin 512) :
    maximumf m (broadcastInDim S1x256x512x1 ![0, 1, 2] bcast_S1x256x512_S1x256x512x1_0_1_2 t) (ix4 (0 : Fin 1) h r (0 : Fin 1))
      = max (m (ix4 (0 : Fin 1) h r (0 : Fin 1))) (t (ix3 (0 : Fin 1) h r)) := by
  pointwise

theorem newMax_apply (m : FVec Ideal S1x256x512x1 .f32) (s : FVec Ideal S1x256x512x1024 .f32) (h : Fin 256) (r : Fin 512) :
    newMax m s (ix4 (0 : Fin 1) h r (0 : Fin 1)) = runMax (m (ix4 (0 : Fin 1) h r (0 : Fin 1))) fun j => s (ix4 (0 : Fin 1) h r j) :=
  (max_spread m _ h r).trans (congrArg (max _) (peak_apply s h r))

theorem newDen_apply (l m m' : FVec Ideal S1x256x512x1 .f32) (s : FVec Ideal S1x256x512x1024 .f32) (h : Fin 256) (r : Fin 512) :
    newDen l (factor m m') (weights s m') (ix4 (0 : Fin 1) h r (0 : Fin 1))
      = l (ix4 (0 : Fin 1) h r (0 : Fin 1)) * Ideal.exp (m (ix4 (0 : Fin 1) h r (0 : Fin 1)) - m' (ix4 (0 : Fin 1) h r (0 : Fin 1)))
        + ∑ j : Fin 1024, Ideal.exp (s (ix4 (0 : Fin 1) h r j) - m' (ix4 (0 : Fin 1) h r (0 : Fin 1))) := by
  pointwise [newDen, factor, weights]

theorem newNum_apply (o : FVec Ideal S1x512x256x128 .f32) (m m' : FVec Ideal S1x256x512x1 .f32) (v : FVec Ideal S1x1024x256x128 .f32)
    (s : FVec Ideal S1x256x512x1024 .f32) (r : Fin 512) (h : Fin 256) (d : Fin 128) :
    newNum o (factor m m') v (weights s m') (ix4 (0 : Fin 1) r h d)
      = o (ix4 (0 : Fin 1) r h d) * Ideal.exp (m (ix4 (0 : Fin 1) h r (0 : Fin 1)) - m' (ix4 (0 : Fin 1) h r (0 : Fin 1)))
        + ∑ j : Fin 1024, v (ix4 (0 : Fin 1) j h d) * Ideal.exp (s (ix4 (0 : Fin 1) h r j) - m' (ix4 (0 : Fin 1) h r (0 : Fin 1))) := by
  pointwise [newNum, factor, weights, spread]

theorem m0_apply (h : Fin 256) (r : Fin 512) : m0 (ix4 (0 : Fin 1) h r (0 : Fin 1)) = ⊥ := by
  pointwise [m0]
  exact ofBits_neg_inf
theorem l0_apply (h : Fin 256) (r : Fin 512) : l0 (ix4 (0 : Fin 1) h r (0 : Fin 1)) = 0 := by
  pointwise [l0]
theorem o0_apply (r : Fin 512) (h : Fin 256) (d : Fin 128) : o0 (ix4 (0 : Fin 1) r h d) = 0 := by
  pointwise [o0]

theorem ratio_apply (n : FVec Ideal S1x512x256x128 .f32) (l : FVec Ideal S1x256x512x1 .f32) (r : Fin 512) (h : Fin 256) (d : Fin 128) :
    Host.divf n (spread l) (ix4 (0 : Fin 1) r h d) = Ideal.div (n (ix4 (0 : Fin 1) r h d)) (l (ix4 (0 : Fin 1) h r (0 : Fin 1))) := by
  pointwise [spread]

/-- The two chunks of a row's scores and of a component's values are the halves of one sequence: the quotient of the
    running numerator by the running denominator is the running form of that sequence. -/
theorem ratio_eq_online (s0 s1 : FVec Ideal S1x256x512x1024 .f32) (v0 v1 : FVec Ideal S1x1024x256x128 .f32) (r : Fin 512) (h : Fin 256)
    (d : Fin 128) (s v : Fin 2048 → EReal) (hs0 : ∀ j, s0 (ix4 (0 : Fin 1) h r j) = s (lo j)) (hs1 : ∀ j, s1 (ix4 (0 : Fin 1) h r j) = s (hi j))
    (hv0 : ∀ j, v0 (ix4 (0 : Fin 1) j h d) = v (lo j)) (hv1 : ∀ j, v1 (ix4 (0 : Fin 1) j h d) = v (hi j)) :
    Host.divf (num s0 s1 v0 v1) (spread (den s0 s1)) (ix4 (0 : Fin 1) r h d) = online s v := by
  have e1 : m1 s0 (ix4 (0 : Fin 1) h r (0 : Fin 1)) = runMax ⊥ fun j => s (lo j) := by
    rw [m1, newMax_apply, m0_apply]; simp only [hs0]
  have e2 : m2 s0 s1 (ix4 (0 : Fin 1) h r (0 : Fin 1)) = runMax (runMax ⊥ fun j => s (lo j)) fun j => s (hi j) := by
    rw [m2, newMax_apply, e1]; simp only [hs1]
  rw [ratio_apply, num, den, newNum_apply, newNum_apply, newDen_apply, newDen_apply, e2, e1, m0_apply, l0_apply, o0_apply]
  simp only [hs0, hs1, hv0, hv1]
  rfl

/-- The reference's attention of a row, a head and a component. -/
theorem heads_apply (x : FVec Ideal S1x512x1024 .f32) (wq : FVec Ideal S1024x32768 .f32) (k v : FVec Ideal S1x2048x256x128 .f32)
    (r : Fin 512) (h : Fin 256) (d : Fin 128) :
    heads x wq k v (ix4 (0 : Fin 1) r h d)
      = attn (fun d => queries x wq (ix4 (0 : Fin 1) r h d)) (fun j d => k (ix4 (0 : Fin 1) j h d)) fun j => v (ix4 (0 : Fin 1) j h d) := by
  refine (ratio_eq_online _ _ _ _ r h d (score (fun d => queries x wq (ix4 (0 : Fin 1) r h d)) fun j d => k (ix4 (0 : Fin 1) j h d))
    (fun j => v (ix4 (0 : Fin 1) j h d)) (fun j => ?_) (fun j => ?_) (fun j => ?_) (fun j => ?_)).trans (online_eq _ _)
  · rw [scored_apply]; simp only [half0_apply]; rfl
  · rw [scored_apply]; simp only [half1_apply]; rfl
  · exact half0_apply v j h d
  · exact half1_apply v j h d

theorem proj_apply (o : FVec Ideal S1x512x256x128 .f32) (wo : FVec Ideal S32768x1024 .f32) (r : Fin 512) (n : Fin 1024) :
    Host.dotGeneral dot_S1x512x32768_S32768x1024_S1x512x1024_2_0_01_1_n_n none (shapeCast _ o shapeCasts_S1x512x256x128_S1x512x32768) wo
        (ix3 (0 : Fin 1) r n)
      = ∑ k : Fin 32768, o (ix4 (0 : Fin 1) r (⟨k.val / 128, by omega⟩ : Fin 256) (⟨k.val % 128, by omega⟩ : Fin 128)) * wo (ix2 k n) := by
  pointwise

/-- The reference's result: the attention of every head, projected. -/
theorem result_apply (x : FVec Ideal S1x512x1024 .f32) (wq : FVec Ideal S1024x32768 .f32) (k v : FVec Ideal S1x2048x256x128 .f32)
    (wo : FVec Ideal S32768x1024 .f32) (r : Fin 512) (n : Fin 1024) :
    result x wq k v wo (ix3 (0 : Fin 1) r n)
      = ∑ c : Fin 32768, attn
          (fun d => ∑ e : Fin 1024, x (ix3 (0 : Fin 1) r e) * wq (ix2 e (⟨c.val / 128 * 128 + d.val, by omega⟩ : Fin 32768)))
          (fun j d => k (ix4 (0 : Fin 1) j (⟨c.val / 128, by omega⟩ : Fin 256) d))
          (fun j => v (ix4 (0 : Fin 1) j (⟨c.val / 128, by omega⟩ : Fin 256) (⟨c.val % 128, by omega⟩ : Fin 128))) * wo (ix2 c n) := by
  rw [result, proj_apply]
  refine Finset.sum_congr rfl fun c _ => ?_
  rw [heads_apply]
  simp only [queries_apply]

end Cert.ReferenceIdeal.Hand

end
-- ==== Proof.Agreement.lean ====
/- The kernel's result is the reference's: each device's partial result is the reference's sum over the device's 1024 of the
   32768 columns of heads, and the devices' sums together are the whole. -/
module

public import proofs.«01_k».proof.Proof.Frames
public import proofs.«01_k».proof.Proof.KernelValue
public import proofs.«01_k».proof.Proof.RefValue
public import Idealize.ShloMosaic.Lib.Pipeline.ValueKit.Acc

@[expose] public section

set_option maxRecDepth 16384

noncomputable section

namespace Cert.KernelIdeal.Hand

open Idealize.ShloMosaic Idealize.ShloMosaic.TcCoe Idealize.SL.Sem Cert.KernelIdeal Cert.KernelIdeal.Gen Cert.Attention

/-! ## The devices' blocks, at an index -/

/-- The query weights are cut by columns, -/
theorem block_wq (w : FVec Ideal ⟨2, ![1024, 32768]⟩ .f32) (c : Fin 32) (e k : Fin 1024) (K : Fin 32768) (hK : c.val * 1024 + k.val = K.val) :
    Layout.block ⟨2, ![1024, 1024]⟩ ⟨2, ![1024, 32768]⟩ 1 32 c w (by decide) (ix2 e k) = w (ix2 e K) :=
  congrArg w (funext fun a => Fin.ext (by
    rw [Layout.Tiles.idx_val]
    fin_cases a
    · rfl
    · exact hK))

/-- the keys and the values by heads, -/
theorem block_kv (w : FVec Ideal ⟨4, ![1, 2048, 256, 128]⟩ .f32) (c : Fin 32) (j : Fin 2048) (h : Fin 8) (d : Fin 128) (H : Fin 256)
    (hH : c.val * 8 + h.val = H.val) :
    Layout.block ⟨4, ![1, 2048, 8, 128]⟩ ⟨4, ![1, 2048, 256, 128]⟩ 2 32 c w (by decide) (ix4 (0 : Fin 1) j h d) = w (ix4 (0 : Fin 1) j H d) :=
  congrArg w (funext fun a => Fin.ext (by
    rw [Layout.Tiles.idx_val]
    fin_cases a
    · rfl
    · rfl
    · exact hH
    · rfl))

/-- the output weights by rows. -/
theorem block_wo (w : FVec Ideal ⟨2, ![32768, 1024]⟩ .f32) (c : Fin 32) (k n : Fin 1024) (K : Fin 32768) (hK : c.val * 1024 + k.val = K.val) :
    Layout.block ⟨2, ![1024, 1024]⟩ ⟨2, ![32768, 1024]⟩ 0 32 c w (by decide) (ix2 k n) = w (ix2 K n) :=
  congrArg w (funext fun a => Fin.ext (by
    rw [Layout.Tiles.idx_val]
    fin_cases a
    · exact hK
    · rfl))

/-! ## The equation -/

/-- Where every device holds the input and its blocks of the other arrays, the kernel's result on any device is the reference's. -/
theorem outAt_eq (m : (ℓ : Loc nD τ sig) → Buf (Elt Ideal) ℓ) (x : FVec Ideal S1x512x1024 .f32) (wq : FVec Ideal ⟨2, ![1024, 32768]⟩ .f32)
    (k v : FVec Ideal ⟨4, ![1, 2048, 256, 128]⟩ .f32) (wo : FVec Ideal ⟨2, ![32768, 1024]⟩ .f32)
    (hx : ∀ c, xAt m c = x) (hwq : ∀ c : Dev nD, wqAt m c = Layout.block ⟨2, ![1024, 1024]⟩ ⟨2, ![1024, 32768]⟩ 1 32 c wq)
    (hk : ∀ c : Dev nD, kAt m c = Layout.block ⟨4, ![1, 2048, 8, 128]⟩ ⟨4, ![1, 2048, 256, 128]⟩ 2 32 c k)
    (hv : ∀ c : Dev nD, vAt m c = Layout.block ⟨4, ![1, 2048, 8, 128]⟩ ⟨4, ![1, 2048, 256, 128]⟩ 2 32 c v)
    (hwo : ∀ c : Dev nD, woAt m c = Layout.block ⟨2, ![1024, 1024]⟩ ⟨2, ![32768, 1024]⟩ 0 32 c wo) (c : Dev nD) :
    outAt m c = Cert.ReferenceIdeal.Hand.result x wq k v wo := by
  have main (r : Fin 512) (n : Fin 1024) :
      outAt m c (ix3 (0 : Fin 1) r n) = Cert.ReferenceIdeal.Hand.result x wq k v wo (ix3 (0 : Fin 1) r n) := by
    rw [outAt_apply, Cert.ReferenceIdeal.Hand.result_apply]
    refine Fin.sum_mul_add_congr (S := 32) (n := 1024) (fun s l hl => ?_)
    rw [hx, hwq, hk, hv, hwo, block_wo wo s l n ⟨s.val * 1024 + l.val, hl⟩ rfl]
    have hq (d : Fin 128) (e : Fin 1024) := block_wq wq s e (col (⟨l.val / 128, by omega⟩ : Fin 8) d)
      (⟨(s.val * 1024 + l.val) / 128 * 128 + d.val, by omega⟩ : Fin 32768) (by
        show s.val * 1024 + (128 * (l.val / 128) + d.val) = (s.val * 1024 + l.val) / 128 * 128 + d.val; omega)
    have hkv (w : FVec Ideal ⟨4, ![1, 2048, 256, 128]⟩ .f32) (j : Fin 2048) (d : Fin 128) := block_kv w s j (⟨l.val / 128, by omega⟩ : Fin 8) d
      (⟨(s.val * 1024 + l.val) / 128, by omega⟩ : Fin 256) (by
        show s.val * 8 + l.val / 128 = (s.val * 1024 + l.val) / 128; omega)
    have hd : (⟨l.val % 128, by omega⟩ : Fin 128) = ⟨(s.val * 1024 + l.val) % 128, by omega⟩ := Fin.ext (by dsimp only; omega)
    simp only [hq, hkv, hd]
  funext i
  have hi : i = ix3 (0 : Fin 1) (i 1 : Fin 512) (i 2 : Fin 1024) := by
    funext a
    fin_cases a
    · exact Subsingleton.elim (α := Fin 1) _ _
    · rfl
    · rfl
  rw [hi]
  exact main _ _

end Cert.KernelIdeal.Hand

namespace Cert.Proof

open Idealize.ShloMosaic Idealize.ShloMosaic.TcCoe Idealize.SL.Sem Cert.KernelIdeal.Hand

theorem algebraic : Cert.algebraic_KernelIdeal_ReferenceIdeal := fun m g m' g' _ hagree => by
  refine ⟨Cert.ReferenceIdeal.Value.res_main_v55 m' 0, ?_, ?_⟩
  · refine (θ_run Cert.KernelIdeal.defs _ _).mono (fun r h c => ⟨?_, kept_of_final m g c (h.1 c)⟩) (run_main (F := Ideal) m g)
    refine ((h.1 c 5).trans (final_out m g c)).trans ?_
    rw [Cert.ReferenceIdeal.Hand.res_eq]
    exact outAt_eq m _ _ _ _ _ (fun c => (xAt_eq m c).trans (hagree c).1) (fun c => (wqAt_eq m c).trans (hagree c).2.1)
      (fun c => (kAt_eq m c).trans (hagree c).2.2.1) (fun c => (vAt_eq m c).trans (hagree c).2.2.2.1)
      (fun c => (woAt_eq m c).trans (hagree c).2.2.2.2) c
  · exact (θ_run Cert.ReferenceIdeal.defs _ _).mono (fun r h => h 0) (Cert.ReferenceIdeal.Value.run (F := Ideal) m' g')

end Cert.Proof

end
-- ==== Proof.lean ====
/- The certificate: the frames of the kernel (at bits and over the reals) and of the reference, and that the idealized
   kernel is the kernel. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agreement
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, frame_kernel, frame_ideal, frame_reference, trivial, algebraic⟩

end Cert.Proof

end
